-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_partials_small_KernelIdeal [hPre_partials_small_KernelIdeal : Cert.Pre_partials_small_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_partials_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def Pre_ClippedIdeal_partials_small_ClippedIdeal [hPre_partials_small_ClippedIdeal : Cert.Pre_partials_small_ClippedIdeal.Facts] (m : (ℓ : Loc Cert.ClippedIdeal.nD Cert.ClippedIdeal.τ Cert.ClippedIdeal.sig) → Buf (Elt Ideal) ℓ) : Prop :=
  ∀ c : Dev Cert.ClippedIdeal.nD,
    (Cert.Pre_partials_small_ClippedIdeal.fn (F := Ideal) (m ((c.tc : Thread Cert.ClippedIdeal.nD Cert.ClippedIdeal.τ).loc Cert.ClippedIdeal.main_arg0)) (m ((c.tc : Thread Cert.ClippedIdeal.nD Cert.ClippedIdeal.τ).loc Cert.ClippedIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_partials_small_KernelIdeal [hKernelIdeal : Cert.KernelIdeal.Facts] [hPre_partials_small_KernelIdeal : Cert.Pre_partials_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_partials_small_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def quiescent_ClippedIdeal_pre_partials_small_ClippedIdeal [hClippedIdeal : Cert.ClippedIdeal.Facts] [hPre_partials_small_ClippedIdeal : Cert.Pre_partials_small_ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal_partials_small_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_pre_partials_small_KernelIdeal [hKernelIdeal : Cert.KernelIdeal.Facts] [hClippedIdeal : Cert.ClippedIdeal.Facts] [hPre_partials_small_KernelIdeal : Cert.Pre_partials_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal_partials_small_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ClippedIdeal.nD).tc : Thread Cert.ClippedIdeal.nD Cert.ClippedIdeal.τ).loc Cert.ClippedIdeal.main_arg1))) →
    ∃ (v0 : Buf (Elt Ideal) (((0 : Dev Cert.ClippedIdeal.nD).tc : Thread Cert.ClippedIdeal.nD Cert.ClippedIdeal.τ).loc Cert.ClippedIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          r.2.mem (((0 : Dev Cert.ClippedIdeal.nD).tc : Thread Cert.ClippedIdeal.nD Cert.ClippedIdeal.τ).loc Cert.ClippedIdeal.main_v6) = v0
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hPre_partials_small_KernelIdeal : Cert.Pre_partials_small_KernelIdeal.Facts) (hPre_partials_small_ClippedIdeal : Cert.Pre_partials_small_ClippedIdeal.Facts),
    quiescent_Kernel (hKernel := hKernel)
    ∧ quiescent_KernelIdeal (hKernelIdeal := hKernelIdeal)
    ∧ quiescent_KernelIdeal_pre_partials_small_KernelIdeal (hKernelIdeal := hKernelIdeal) (hPre_partials_small_KernelIdeal := hPre_partials_small_KernelIdeal)
    ∧ quiescent_ReferenceIdeal (hReferenceIdeal := hReferenceIdeal)
    ∧ quiescent_ClippedIdeal (hClippedIdeal := hClippedIdeal)
    ∧ quiescent_ClippedIdeal_pre_partials_small_ClippedIdeal (hClippedIdeal := hClippedIdeal) (hPre_partials_small_ClippedIdeal := hPre_partials_small_ClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_pre_partials_small_KernelIdeal (hKernelIdeal := hKernelIdeal) (hClippedIdeal := hClippedIdeal) (hPre_partials_small_KernelIdeal := hPre_partials_small_KernelIdeal)
-- ==== Pre_partials_small_ClippedIdeal.lean ====
abbrev S4096x4096 : Shape := ⟨2, ![4096, 4096]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) : IVec S4096x8192 1 :=
  let main_v0 : FVec F S4096x8192 .f32 := (fun l r => Host.dotGeneral dot_S4096x4096_S4096x8192_S4096x8192_1_0_0_1_n_n none l r) main_arg0 main_arg1
  let main_v1 : FVec F S4096x8192 .f32 := Host.absf main_v0
  let main_cst : FVec F S_ .f32 := constant S_ .f32 0x40700000#32
  let main_v2 : FVec F S4096x8192 .f32 := broadcastInDim S4096x8192 ![] bcast_S_S4096x8192 main_cst
  let main_v3 : IVec S4096x8192 1 := cmpf .ole main_v1 main_v2
  main_v3
-- ==== Pre_partials_small_KernelIdeal.lean ====
abbrev S4096x256 : Shape := ⟨2, ![4096, 256]⟩
abbrev S256x8192 : Shape := ⟨2, ![256, 8192]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  dot_S4096x256_S256x8192_S4096x8192_1_0_0_1_n_n_wf : DotDims.WF S4096x256 S256x8192 S4096x8192 [1] [0] [0] [1] [] []

variable [Facts]

def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf
def fn {F : FTy → Type} [FloatOps F] (main_arg0 : FVec F S4096x256 .f32) (main_arg1 : FVec F S256x8192 .f32) : IVec S4096x8192 1 :=
  let main_v0 : FVec F S4096x8192 .f32 := (fun l r => Host.dotGeneral dot_S4096x256_S256x8192_S4096x8192_1_0_0_1_n_n none l r) main_arg0 main_arg1
  let main_v1 : FVec F S4096x8192 .f32 := Host.absf main_v0
  let main_cst : FVec F S_ .f32 := constant S_ .f32 0x40700000#32
  let main_v2 : FVec F S4096x8192 .f32 := broadcastInDim S4096x8192 ![] bcast_S_S4096x8192 main_cst
  let main_v3 : IVec S4096x8192 1 := cmpf .ole main_v1 main_v2
  main_v3
-- ==== Kernel.lean ====
abbrev S4096x256 : Shape := ⟨2, ![4096, 256]⟩
abbrev S256x8192 : Shape := ⟨2, ![256, 8192]⟩
abbrev S2x256x4096 : Shape := ⟨3, ![2, 256, 4096]⟩
abbrev S2x4 : Shape := ⟨2, ![2, 4]⟩
abbrev S_ : Shape := ⟨0, ![]⟩
abbrev S256x256 : Shape := ⟨2, ![256, 256]⟩
abbrev S256x1024 : Shape := ⟨2, ![256, 1024]⟩
abbrev S1x256x1024 : Shape := ⟨3, ![1, 256, 1024]⟩
abbrev S1x1 : Shape := ⟨2, ![1, 1]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x8192, .f32⟩
  | .hbm, ⟨2, _⟩ => ⟨S256x8192, .f32⟩
  | .local _ .vmem, ⟨0, _⟩ => ⟨S4096x256, .f32⟩
  | .local _ .vmem, ⟨1, _⟩ => ⟨S256x8192, .f32⟩
  | .local _ .vmem, ⟨2, _⟩ => ⟨S256x8192, .f32⟩
  | .local _ .vmem, ⟨3, _⟩ => ⟨S2x256x4096, .f32⟩
  | .local _ .vmem, ⟨4, _⟩ => ⟨S2x256x4096, .f32⟩
  | .local _ .vmem, ⟨5, _⟩ => ⟨S2x256x4096, .f32⟩
  | .local _ .vmem, ⟨6, _⟩ => ⟨S2x256x4096, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 3 35 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8 : BitVec 32 := 1#32
  let v11 : BitVec 32 := Scalar.muli v4 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c256_i32 : BitVec 32 := 256#32
  let v13 : BitVec 32 := Scalar.muli v7 c256_i32
  let v14 : Index := Scalar.indexCast v13
  let c0 : Index := 0#32
  ![v14.toNat, 0]
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_21 : BitVec 32 := 1#32
  let v23 : BitVec 32 := Scalar.muli v4 c1_i32_21
  let v24 : BitVec 32 := Scalar.addi c0_i32_22 v23
  v24.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c256_i32_27 : BitVec 32 := 256#32
  let v33 : BitVec 32 := Scalar.muli v4 c256_i32_27
  let v34 : Index := Scalar.indexCast v33
  let c0_28 : Index := 0#32
  ![v34.toNat, 0]
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_40 : BitVec 32 := 1#32
  let v43 : BitVec 32 := Scalar.muli v7 c1_i32_40
  let v44 : BitVec 32 := Scalar.addi c0_i32_41 v43
  v44.toNat
def k0_dev5 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_59 : BitVec 32 := 1#32
  let v63 : BitVec 32 := Scalar.muli v4 c1_i32_59
  let v64 : BitVec 32 := Scalar.addi c0_i32_60 v63
  v64.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_77 : BitVec 32 := 1#32
  let v83 : BitVec 32 := Scalar.muli v7 c1_i32_77
  let v84 : BitVec 32 := Scalar.addi c0_i32_78 v83
  v84.toNat
def k0_dev7 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_96 : BitVec 32 := 1#32
  let v103 : BitVec 32 := Scalar.muli v4 c1_i32_96
  let v104 : BitVec 32 := Scalar.addi c0_i32_97 v103
  v104.toNat
def k0_dev8 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_114 : BitVec 32 := 1#32
  let v123 : BitVec 32 := Scalar.muli v7 c1_i32_114
  let v124 : BitVec 32 := Scalar.addi c0_i32_115 v123
  v124.toNat
def k0_dev9 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_132 : BitVec 32 := 1#32
  let v143 : BitVec 32 := Scalar.muli v4 c1_i32_132
  let v144 : BitVec 32 := Scalar.addi c0_i32_133 v143
  v144.toNat
def k0_dev10 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_150 : BitVec 32 := 1#32
  let v163 : BitVec 32 := Scalar.muli v7 c1_i32_150
  let v164 : BitVec 32 := Scalar.addi c0_i32_151 v163
  v164.toNat
def k0_off3 (d0 : Dev nD) (c0_i32_157 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v173 : BitVec 32 := Scalar.addi v2 c32_i32
  let c2_i32_156 : BitVec 32 := 2#32
  let v174 : BitVec 32 := Scalar.subi v173 c2_i32_156
  let v175 : BitVec 32 := Scalar.subi v174 c0_i32_157
  let c16_i32_158 : BitVec 32 := 16#32
  let v176 : BitVec 32 := Scalar.remsi v175 c16_i32_158
  let c256_i32_159 : BitVec 32 := 256#32
  let v177 : BitVec 32 := Scalar.muli v176 c256_i32_159
  let v178 : Index := Scalar.indexCast v177
  let c0_160 : Index := 0#32
  ![v178.toNat, 0]
def k0_dev11 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_187 : BitVec 32 := 1#32
  let v198 : BitVec 32 := Scalar.muli v4 c1_i32_187
  let v199 : BitVec 32 := Scalar.addi c0_i32_188 v198
  v199.toNat
def k0_off4 (d0 : Dev nD) (c0_i32_194 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_193 : BitVec 32 := 2#32
  let v208 : BitVec 32 := Scalar.addi v2 c2_i32_193
  let v209 : BitVec 32 := Scalar.addi v208 c0_i32_194
  let c16_i32_195 : BitVec 32 := 16#32
  let v210 : BitVec 32 := Scalar.remsi v209 c16_i32_195
  let c256_i32_196 : BitVec 32 := 256#32
  let v211 : BitVec 32 := Scalar.muli v210 c256_i32_196
  let v212 : Index := Scalar.indexCast v211
  let c0_197 : Index := 0#32
  ![v212.toNat, 0]
def k0_dev12 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_225 : BitVec 32 := 1#32
  let v232 : BitVec 32 := Scalar.muli v7 c1_i32_225
  let v233 : BitVec 32 := Scalar.addi c0_i32_226 v232
  v233.toNat
def k0_dev13 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_264 : BitVec 32 := 1#32
  let v267 : BitVec 32 := Scalar.muli v4 c1_i32_264
  let v268 : BitVec 32 := Scalar.addi c0_i32_265 v267
  v268.toNat
def k0_dev14 (d0 : Dev nD) : Nat :=
  let c0_i32_303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_302 : BitVec 32 := 1#32
  let v301 : BitVec 32 := Scalar.muli v7 c1_i32_302
  let v302 : BitVec 32 := Scalar.addi c0_i32_303 v301
  v302.toNat
def k0_dev15 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_341 : BitVec 32 := 1#32
  let v336 : BitVec 32 := Scalar.muli v4 c1_i32_341
  let v337 : BitVec 32 := Scalar.addi c0_i32_342 v336
  v337.toNat
def k0_dev16 (d0 : Dev nD) : Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_379 : BitVec 32 := 1#32
  let v370 : BitVec 32 := Scalar.muli v7 c1_i32_379
  let v371 : BitVec 32 := Scalar.addi c0_i32_380 v370
  v371.toNat
def k0_dev17 (d0 : Dev nD) : Nat :=
  let c0_i32_414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_413 : BitVec 32 := 1#32
  let v405 : BitVec 32 := Scalar.muli v7 c1_i32_413
  let v406 : BitVec 32 := Scalar.addi c0_i32_414 v405
  v406.toNat
def k0_dev18 (d0 : Dev nD) : Nat :=
  let c0_i32_422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_421 : BitVec 32 := 1#32
  let v407 : BitVec 32 := Scalar.muli v4 c1_i32_421
  let v408 : BitVec 32 := Scalar.addi c0_i32_422 v407
  v408.toNat
def k0_dev19 (d0 : Dev nD) : Nat :=
  let c0_i32_455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_454 : BitVec 32 := 1#32
  let v441 : BitVec 32 := Scalar.muli v4 c1_i32_454
  let v442 : BitVec 32 := Scalar.addi c0_i32_455 v441
  v442.toNat
def k0_dev20 (d0 : Dev nD) : Nat :=
  let c0_i32_463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_462 : BitVec 32 := 1#32
  let v443 : BitVec 32 := Scalar.muli v7 c1_i32_462
  let v444 : BitVec 32 := Scalar.addi c0_i32_463 v443
  v444.toNat
def k0_dev21 (d0 : Dev nD) : Nat :=
  let c0_i32_515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_514 : BitVec 32 := 1#32
  let v484 : BitVec 32 := Scalar.muli v4 c1_i32_514
  let v485 : BitVec 32 := Scalar.addi c0_i32_515 v484
  v485.toNat
def k0_dev22 (d0 : Dev nD) : Nat :=
  let c0_i32_566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_565 : BitVec 32 := 1#32
  let v524 : BitVec 32 := Scalar.muli v7 c1_i32_565
  let v525 : BitVec 32 := Scalar.addi c0_i32_566 v524
  v525.toNat
def k0_dev23 (d0 : Dev nD) : Nat :=
  let c0_i32_616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_615 : BitVec 32 := 1#32
  let v565 : BitVec 32 := Scalar.muli v4 c1_i32_615
  let v566 : BitVec 32 := Scalar.addi c0_i32_616 v565
  v566.toNat
def k0_dev24 (d0 : Dev nD) : Nat :=
  let c0_i32_665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_664 : BitVec 32 := 1#32
  let v605 : BitVec 32 := Scalar.muli v7 c1_i32_664
  let v606 : BitVec 32 := Scalar.addi c0_i32_665 v605
  v606.toNat
def k0_dev25 (d0 : Dev nD) : Nat :=
  let c0_i32_715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_714 : BitVec 32 := 1#32
  let v646 : BitVec 32 := Scalar.muli v4 c1_i32_714
  let v647 : BitVec 32 := Scalar.addi c0_i32_715 v646
  v647.toNat
def k0_dev26 (d0 : Dev nD) : Nat :=
  let c0_i32_764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_763 : BitVec 32 := 1#32
  let v686 : BitVec 32 := Scalar.muli v7 c1_i32_763
  let v687 : BitVec 32 := Scalar.addi c0_i32_764 v686
  v687.toNat
def k0_dev27 (d0 : Dev nD) : Nat :=
  let c0_i32_809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_808 : BitVec 32 := 1#32
  let v727 : BitVec 32 := Scalar.muli v7 c1_i32_808
  let v728 : BitVec 32 := Scalar.addi c0_i32_809 v727
  v728.toNat
def k0_dev28 (d0 : Dev nD) : Nat :=
  let c0_i32_817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_816 : BitVec 32 := 1#32
  let v729 : BitVec 32 := Scalar.muli v4 c1_i32_816
  let v730 : BitVec 32 := Scalar.addi c0_i32_817 v729
  v730.toNat
def k0_dev29 (d0 : Dev nD) : Nat :=
  let c0_i32_861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_860 : BitVec 32 := 1#32
  let v769 : BitVec 32 := Scalar.muli v4 c1_i32_860
  let v770 : BitVec 32 := Scalar.addi c0_i32_861 v769
  v770.toNat
def k0_dev30 (d0 : Dev nD) : Nat :=
  let c0_i32_869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_868 : BitVec 32 := 1#32
  let v771 : BitVec 32 := Scalar.muli v7 c1_i32_868
  let v772 : BitVec 32 := Scalar.addi c0_i32_869 v771
  v772.toNat
def k0_dev31 (d0 : Dev nD) : Nat :=
  let c0_i32_921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_920 : BitVec 32 := 1#32
  let v812 : BitVec 32 := Scalar.muli v4 c1_i32_920
  let v813 : BitVec 32 := Scalar.addi c0_i32_921 v812
  v813.toNat
def k0_dev32 (d0 : Dev nD) : Nat :=
  let c0_i32_972 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_971 : BitVec 32 := 1#32
  let v852 : BitVec 32 := Scalar.muli v7 c1_i32_971
  let v853 : BitVec 32 := Scalar.addi c0_i32_972 v852
  v853.toNat
def k0_dev33 (d0 : Dev nD) : Nat :=
  let c0_i32_1022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1021 : BitVec 32 := 1#32
  let v893 : BitVec 32 := Scalar.muli v4 c1_i32_1021
  let v894 : BitVec 32 := Scalar.addi c0_i32_1022 v893
  v894.toNat
def k0_dev34 (d0 : Dev nD) : Nat :=
  let c0_i32_1071 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1070 : BitVec 32 := 1#32
  let v933 : BitVec 32 := Scalar.muli v7 c1_i32_1070
  let v934 : BitVec 32 := Scalar.addi c0_i32_1071 v933
  v934.toNat
def k0_dev35 (d0 : Dev nD) : Nat :=
  let c0_i32_1121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1120 : BitVec 32 := 1#32
  let v974 : BitVec 32 := Scalar.muli v4 c1_i32_1120
  let v975 : BitVec 32 := Scalar.addi c0_i32_1121 v974
  v975.toNat
def k0_dev36 (d0 : Dev nD) : Nat :=
  let c0_i32_1170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1169 : BitVec 32 := 1#32
  let v1014 : BitVec 32 := Scalar.muli v7 c1_i32_1169
  let v1015 : BitVec 32 := Scalar.addi c0_i32_1170 v1014
  v1015.toNat
def k0_dev37 (d0 : Dev nD) : Nat :=
  let c0_i32_1215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1214 : BitVec 32 := 1#32
  let v1055 : BitVec 32 := Scalar.muli v7 c1_i32_1214
  let v1056 : BitVec 32 := Scalar.addi c0_i32_1215 v1055
  v1056.toNat
def k0_dev38 (d0 : Dev nD) : Nat :=
  let c0_i32_1223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1222 : BitVec 32 := 1#32
  let v1057 : BitVec 32 := Scalar.muli v4 c1_i32_1222
  let v1058 : BitVec 32 := Scalar.addi c0_i32_1223 v1057
  v1058.toNat
def k0_dev39 (d0 : Dev nD) : Nat :=
  let c0_i32_1267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1266 : BitVec 32 := 1#32
  let v1097 : BitVec 32 := Scalar.muli v4 c1_i32_1266
  let v1098 : BitVec 32 := Scalar.addi c0_i32_1267 v1097
  v1098.toNat
def k0_dev40 (d0 : Dev nD) : Nat :=
  let c0_i32_1275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1274 : BitVec 32 := 1#32
  let v1099 : BitVec 32 := Scalar.muli v7 c1_i32_1274
  let v1100 : BitVec 32 := Scalar.addi c0_i32_1275 v1099
  v1100.toNat
def k0_dev41 (d0 : Dev nD) : Nat :=
  let c0_i32_1327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1326 : BitVec 32 := 1#32
  let v1140 : BitVec 32 := Scalar.muli v4 c1_i32_1326
  let v1141 : BitVec 32 := Scalar.addi c0_i32_1327 v1140
  v1141.toNat
def k0_dev42 (d0 : Dev nD) : Nat :=
  let c0_i32_1378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1377 : BitVec 32 := 1#32
  let v1180 : BitVec 32 := Scalar.muli v7 c1_i32_1377
  let v1181 : BitVec 32 := Scalar.addi c0_i32_1378 v1180
  v1181.toNat
def k0_dev43 (d0 : Dev nD) : Nat :=
  let c0_i32_1428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1427 : BitVec 32 := 1#32
  let v1221 : BitVec 32 := Scalar.muli v4 c1_i32_1427
  let v1222 : BitVec 32 := Scalar.addi c0_i32_1428 v1221
  v1222.toNat
def k0_dev44 (d0 : Dev nD) : Nat :=
  let c0_i32_1477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1476 : BitVec 32 := 1#32
  let v1261 : BitVec 32 := Scalar.muli v7 c1_i32_1476
  let v1262 : BitVec 32 := Scalar.addi c0_i32_1477 v1261
  v1262.toNat
def k0_dev45 (d0 : Dev nD) : Nat :=
  let c0_i32_1527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1526 : BitVec 32 := 1#32
  let v1302 : BitVec 32 := Scalar.muli v4 c1_i32_1526
  let v1303 : BitVec 32 := Scalar.addi c0_i32_1527 v1302
  v1303.toNat
def k0_dev46 (d0 : Dev nD) : Nat :=
  let c0_i32_1576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1575 : BitVec 32 := 1#32
  let v1342 : BitVec 32 := Scalar.muli v7 c1_i32_1575
  let v1343 : BitVec 32 := Scalar.addi c0_i32_1576 v1342
  v1343.toNat
def k0_dev47 (d0 : Dev nD) : Nat :=
  let c0_i32_1621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1620 : BitVec 32 := 1#32
  let v1383 : BitVec 32 := Scalar.muli v7 c1_i32_1620
  let v1384 : BitVec 32 := Scalar.addi c0_i32_1621 v1383
  v1384.toNat
def k0_dev48 (d0 : Dev nD) : Nat :=
  let c0_i32_1629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1628 : BitVec 32 := 1#32
  let v1385 : BitVec 32 := Scalar.muli v4 c1_i32_1628
  let v1386 : BitVec 32 := Scalar.addi c0_i32_1629 v1385
  v1386.toNat
def k0_dev49 (d0 : Dev nD) : Nat :=
  let c0_i32_1673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1672 : BitVec 32 := 1#32
  let v1425 : BitVec 32 := Scalar.muli v4 c1_i32_1672
  let v1426 : BitVec 32 := Scalar.addi c0_i32_1673 v1425
  v1426.toNat
def k0_dev50 (d0 : Dev nD) : Nat :=
  let c0_i32_1681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1680 : BitVec 32 := 1#32
  let v1427 : BitVec 32 := Scalar.muli v7 c1_i32_1680
  let v1428 : BitVec 32 := Scalar.addi c0_i32_1681 v1427
  v1428.toNat
def k0_dev51 (d0 : Dev nD) : Nat :=
  let c0_i32_1732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1731 : BitVec 32 := 1#32
  let v1468 : BitVec 32 := Scalar.muli v4 c1_i32_1731
  let v1469 : BitVec 32 := Scalar.addi c0_i32_1732 v1468
  v1469.toNat
def k0_dev52 (d0 : Dev nD) : Nat :=
  let c0_i32_1783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1782 : BitVec 32 := 1#32
  let v1508 : BitVec 32 := Scalar.muli v7 c1_i32_1782
  let v1509 : BitVec 32 := Scalar.addi c0_i32_1783 v1508
  v1509.toNat
def k0_dev53 (d0 : Dev nD) : Nat :=
  let c0_i32_1833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1832 : BitVec 32 := 1#32
  let v1549 : BitVec 32 := Scalar.muli v4 c1_i32_1832
  let v1550 : BitVec 32 := Scalar.addi c0_i32_1833 v1549
  v1550.toNat
def k0_dev54 (d0 : Dev nD) : Nat :=
  let c0_i32_1882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1881 : BitVec 32 := 1#32
  let v1589 : BitVec 32 := Scalar.muli v7 c1_i32_1881
  let v1590 : BitVec 32 := Scalar.addi c0_i32_1882 v1589
  v1590.toNat
def k0_dev55 (d0 : Dev nD) : Nat :=
  let c0_i32_1932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1931 : BitVec 32 := 1#32
  let v1630 : BitVec 32 := Scalar.muli v4 c1_i32_1931
  let v1631 : BitVec 32 := Scalar.addi c0_i32_1932 v1630
  v1631.toNat
def k0_dev56 (d0 : Dev nD) : Nat :=
  let c0_i32_1981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1980 : BitVec 32 := 1#32
  let v1670 : BitVec 32 := Scalar.muli v7 c1_i32_1980
  let v1671 : BitVec 32 := Scalar.addi c0_i32_1981 v1670
  v1671.toNat
def k0_dev57 (d0 : Dev nD) : Nat :=
  let c0_i32_2026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2025 : BitVec 32 := 1#32
  let v1711 : BitVec 32 := Scalar.muli v7 c1_i32_2025
  let v1712 : BitVec 32 := Scalar.addi c0_i32_2026 v1711
  v1712.toNat
def k0_dev58 (d0 : Dev nD) : Nat :=
  let c0_i32_2034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2033 : BitVec 32 := 1#32
  let v1713 : BitVec 32 := Scalar.muli v4 c1_i32_2033
  let v1714 : BitVec 32 := Scalar.addi c0_i32_2034 v1713
  v1714.toNat
def k0_dev59 (d0 : Dev nD) : Nat :=
  let c0_i32_2078 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2077 : BitVec 32 := 1#32
  let v1753 : BitVec 32 := Scalar.muli v4 c1_i32_2077
  let v1754 : BitVec 32 := Scalar.addi c0_i32_2078 v1753
  v1754.toNat
def k0_dev60 (d0 : Dev nD) : Nat :=
  let c0_i32_2086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2085 : BitVec 32 := 1#32
  let v1755 : BitVec 32 := Scalar.muli v7 c1_i32_2085
  let v1756 : BitVec 32 := Scalar.addi c0_i32_2086 v1755
  v1756.toNat
def k0_dev61 (d0 : Dev nD) : Nat :=
  let c0_i32_2137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2136 : BitVec 32 := 1#32
  let v1796 : BitVec 32 := Scalar.muli v4 c1_i32_2136
  let v1797 : BitVec 32 := Scalar.addi c0_i32_2137 v1796
  v1797.toNat
def k0_dev62 (d0 : Dev nD) : Nat :=
  let c0_i32_2188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2187 : BitVec 32 := 1#32
  let v1836 : BitVec 32 := Scalar.muli v7 c1_i32_2187
  let v1837 : BitVec 32 := Scalar.addi c0_i32_2188 v1836
  v1837.toNat
def k0_dev63 (d0 : Dev nD) : Nat :=
  let c0_i32_2238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2237 : BitVec 32 := 1#32
  let v1877 : BitVec 32 := Scalar.muli v4 c1_i32_2237
  let v1878 : BitVec 32 := Scalar.addi c0_i32_2238 v1877
  v1878.toNat
def k0_dev64 (d0 : Dev nD) : Nat :=
  let c0_i32_2287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2286 : BitVec 32 := 1#32
  let v1917 : BitVec 32 := Scalar.muli v7 c1_i32_2286
  let v1918 : BitVec 32 := Scalar.addi c0_i32_2287 v1917
  v1918.toNat
def k0_dev65 (d0 : Dev nD) : Nat :=
  let c0_i32_2337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2336 : BitVec 32 := 1#32
  let v1958 : BitVec 32 := Scalar.muli v4 c1_i32_2336
  let v1959 : BitVec 32 := Scalar.addi c0_i32_2337 v1958
  v1959.toNat
def k0_dev66 (d0 : Dev nD) : Nat :=
  let c0_i32_2386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2385 : BitVec 32 := 1#32
  let v1998 : BitVec 32 := Scalar.muli v7 c1_i32_2385
  let v1999 : BitVec 32 := Scalar.addi c0_i32_2386 v1998
  v1999.toNat
def k0_dev67 (d0 : Dev nD) : Nat :=
  let c0_i32_2431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2430 : BitVec 32 := 1#32
  let v2039 : BitVec 32 := Scalar.muli v7 c1_i32_2430
  let v2040 : BitVec 32 := Scalar.addi c0_i32_2431 v2039
  v2040.toNat
def k0_dev68 (d0 : Dev nD) : Nat :=
  let c0_i32_2439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2438 : BitVec 32 := 1#32
  let v2041 : BitVec 32 := Scalar.muli v4 c1_i32_2438
  let v2042 : BitVec 32 := Scalar.addi c0_i32_2439 v2041
  v2042.toNat
def k0_dev69 (d0 : Dev nD) : Nat :=
  let c0_i32_2483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2482 : BitVec 32 := 1#32
  let v2081 : BitVec 32 := Scalar.muli v4 c1_i32_2482
  let v2082 : BitVec 32 := Scalar.addi c0_i32_2483 v2081
  v2082.toNat
def k0_dev70 (d0 : Dev nD) : Nat :=
  let c0_i32_2491 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2490 : BitVec 32 := 1#32
  let v2083 : BitVec 32 := Scalar.muli v7 c1_i32_2490
  let v2084 : BitVec 32 := Scalar.addi c0_i32_2491 v2083
  v2084.toNat
def k0_dev71 (d0 : Dev nD) : Nat :=
  let c0_i32_2542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2541 : BitVec 32 := 1#32
  let v2124 : BitVec 32 := Scalar.muli v4 c1_i32_2541
  let v2125 : BitVec 32 := Scalar.addi c0_i32_2542 v2124
  v2125.toNat
def k0_dev72 (d0 : Dev nD) : Nat :=
  let c0_i32_2593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2592 : BitVec 32 := 1#32
  let v2164 : BitVec 32 := Scalar.muli v7 c1_i32_2592
  let v2165 : BitVec 32 := Scalar.addi c0_i32_2593 v2164
  v2165.toNat
def k0_dev73 (d0 : Dev nD) : Nat :=
  let c0_i32_2643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2642 : BitVec 32 := 1#32
  let v2205 : BitVec 32 := Scalar.muli v4 c1_i32_2642
  let v2206 : BitVec 32 := Scalar.addi c0_i32_2643 v2205
  v2206.toNat
def k0_dev74 (d0 : Dev nD) : Nat :=
  let c0_i32_2692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2691 : BitVec 32 := 1#32
  let v2245 : BitVec 32 := Scalar.muli v7 c1_i32_2691
  let v2246 : BitVec 32 := Scalar.addi c0_i32_2692 v2245
  v2246.toNat
def k0_dev75 (d0 : Dev nD) : Nat :=
  let c0_i32_2742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2741 : BitVec 32 := 1#32
  let v2286 : BitVec 32 := Scalar.muli v4 c1_i32_2741
  let v2287 : BitVec 32 := Scalar.addi c0_i32_2742 v2286
  v2287.toNat
def k0_dev76 (d0 : Dev nD) : Nat :=
  let c0_i32_2791 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2790 : BitVec 32 := 1#32
  let v2326 : BitVec 32 := Scalar.muli v7 c1_i32_2790
  let v2327 : BitVec 32 := Scalar.addi c0_i32_2791 v2326
  v2327.toNat
def k0_dev77 (d0 : Dev nD) : Nat :=
  let c0_i32_2836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2835 : BitVec 32 := 1#32
  let v2367 : BitVec 32 := Scalar.muli v7 c1_i32_2835
  let v2368 : BitVec 32 := Scalar.addi c0_i32_2836 v2367
  v2368.toNat
def k0_dev78 (d0 : Dev nD) : Nat :=
  let c0_i32_2844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2843 : BitVec 32 := 1#32
  let v2369 : BitVec 32 := Scalar.muli v4 c1_i32_2843
  let v2370 : BitVec 32 := Scalar.addi c0_i32_2844 v2369
  v2370.toNat
def k0_dev79 (d0 : Dev nD) : Nat :=
  let c0_i32_2888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2887 : BitVec 32 := 1#32
  let v2409 : BitVec 32 := Scalar.muli v4 c1_i32_2887
  let v2410 : BitVec 32 := Scalar.addi c0_i32_2888 v2409
  v2410.toNat
def k0_dev80 (d0 : Dev nD) : Nat :=
  let c0_i32_2896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2895 : BitVec 32 := 1#32
  let v2411 : BitVec 32 := Scalar.muli v7 c1_i32_2895
  let v2412 : BitVec 32 := Scalar.addi c0_i32_2896 v2411
  v2412.toNat
def k0_dev81 (d0 : Dev nD) : Nat :=
  let c0_i32_2947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2946 : BitVec 32 := 1#32
  let v2452 : BitVec 32 := Scalar.muli v4 c1_i32_2946
  let v2453 : BitVec 32 := Scalar.addi c0_i32_2947 v2452
  v2453.toNat
def k0_dev82 (d0 : Dev nD) : Nat :=
  let c0_i32_2998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2997 : BitVec 32 := 1#32
  let v2492 : BitVec 32 := Scalar.muli v7 c1_i32_2997
  let v2493 : BitVec 32 := Scalar.addi c0_i32_2998 v2492
  v2493.toNat
def k0_dev83 (d0 : Dev nD) : Nat :=
  let c0_i32_3048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3047 : BitVec 32 := 1#32
  let v2533 : BitVec 32 := Scalar.muli v4 c1_i32_3047
  let v2534 : BitVec 32 := Scalar.addi c0_i32_3048 v2533
  v2534.toNat
def k0_dev84 (d0 : Dev nD) : Nat :=
  let c0_i32_3097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3096 : BitVec 32 := 1#32
  let v2573 : BitVec 32 := Scalar.muli v7 c1_i32_3096
  let v2574 : BitVec 32 := Scalar.addi c0_i32_3097 v2573
  v2574.toNat
def k0_dev85 (d0 : Dev nD) : Nat :=
  let c0_i32_3147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3146 : BitVec 32 := 1#32
  let v2614 : BitVec 32 := Scalar.muli v4 c1_i32_3146
  let v2615 : BitVec 32 := Scalar.addi c0_i32_3147 v2614
  v2615.toNat
def k0_dev86 (d0 : Dev nD) : Nat :=
  let c0_i32_3196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3195 : BitVec 32 := 1#32
  let v2654 : BitVec 32 := Scalar.muli v7 c1_i32_3195
  let v2655 : BitVec 32 := Scalar.addi c0_i32_3196 v2654
  v2655.toNat
def k0_dev87 (d0 : Dev nD) : Nat :=
  let c0_i32_3241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3240 : BitVec 32 := 1#32
  let v2695 : BitVec 32 := Scalar.muli v7 c1_i32_3240
  let v2696 : BitVec 32 := Scalar.addi c0_i32_3241 v2695
  v2696.toNat
def k0_dev88 (d0 : Dev nD) : Nat :=
  let c0_i32_3249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3248 : BitVec 32 := 1#32
  let v2697 : BitVec 32 := Scalar.muli v4 c1_i32_3248
  let v2698 : BitVec 32 := Scalar.addi c0_i32_3249 v2697
  v2698.toNat
def k0_dev89 (d0 : Dev nD) : Nat :=
  let c0_i32_3293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3292 : BitVec 32 := 1#32
  let v2737 : BitVec 32 := Scalar.muli v4 c1_i32_3292
  let v2738 : BitVec 32 := Scalar.addi c0_i32_3293 v2737
  v2738.toNat
def k0_dev90 (d0 : Dev nD) : Nat :=
  let c0_i32_3301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3300 : BitVec 32 := 1#32
  let v2739 : BitVec 32 := Scalar.muli v7 c1_i32_3300
  let v2740 : BitVec 32 := Scalar.addi c0_i32_3301 v2739
  v2740.toNat
def k0_dev91 (d0 : Dev nD) : Nat :=
  let c0_i32_3352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3351 : BitVec 32 := 1#32
  let v2780 : BitVec 32 := Scalar.muli v4 c1_i32_3351
  let v2781 : BitVec 32 := Scalar.addi c0_i32_3352 v2780
  v2781.toNat
def k0_dev92 (d0 : Dev nD) : Nat :=
  let c0_i32_3403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3402 : BitVec 32 := 1#32
  let v2820 : BitVec 32 := Scalar.muli v7 c1_i32_3402
  let v2821 : BitVec 32 := Scalar.addi c0_i32_3403 v2820
  v2821.toNat
def k0_dev93 (d0 : Dev nD) : Nat :=
  let c0_i32_3453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3452 : BitVec 32 := 1#32
  let v2861 : BitVec 32 := Scalar.muli v4 c1_i32_3452
  let v2862 : BitVec 32 := Scalar.addi c0_i32_3453 v2861
  v2862.toNat
def k0_dev94 (d0 : Dev nD) : Nat :=
  let c0_i32_3502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3501 : BitVec 32 := 1#32
  let v2901 : BitVec 32 := Scalar.muli v7 c1_i32_3501
  let v2902 : BitVec 32 := Scalar.addi c0_i32_3502 v2901
  v2902.toNat
def k0_dev95 (d0 : Dev nD) : Nat :=
  let c0_i32_3552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3551 : BitVec 32 := 1#32
  let v2942 : BitVec 32 := Scalar.muli v4 c1_i32_3551
  let v2943 : BitVec 32 := Scalar.addi c0_i32_3552 v2942
  v2943.toNat
def k0_dev96 (d0 : Dev nD) : Nat :=
  let c0_i32_3601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3600 : BitVec 32 := 1#32
  let v2982 : BitVec 32 := Scalar.muli v7 c1_i32_3600
  let v2983 : BitVec 32 := Scalar.addi c0_i32_3601 v2982
  v2983.toNat
def k0_dev97 (d0 : Dev nD) : Nat :=
  let c0_i32_3646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3645 : BitVec 32 := 1#32
  let v3023 : BitVec 32 := Scalar.muli v7 c1_i32_3645
  let v3024 : BitVec 32 := Scalar.addi c0_i32_3646 v3023
  v3024.toNat
def k0_dev98 (d0 : Dev nD) : Nat :=
  let c0_i32_3654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3653 : BitVec 32 := 1#32
  let v3025 : BitVec 32 := Scalar.muli v4 c1_i32_3653
  let v3026 : BitVec 32 := Scalar.addi c0_i32_3654 v3025
  v3026.toNat
def k0_dev99 (d0 : Dev nD) : Nat :=
  let c0_i32_3698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3697 : BitVec 32 := 1#32
  let v3065 : BitVec 32 := Scalar.muli v4 c1_i32_3697
  let v3066 : BitVec 32 := Scalar.addi c0_i32_3698 v3065
  v3066.toNat
def k0_dev100 (d0 : Dev nD) : Nat :=
  let c0_i32_3706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3705 : BitVec 32 := 1#32
  let v3067 : BitVec 32 := Scalar.muli v7 c1_i32_3705
  let v3068 : BitVec 32 := Scalar.addi c0_i32_3706 v3067
  v3068.toNat
def k0_dev101 (d0 : Dev nD) : Nat :=
  let c0_i32_3757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3756 : BitVec 32 := 1#32
  let v3108 : BitVec 32 := Scalar.muli v4 c1_i32_3756
  let v3109 : BitVec 32 := Scalar.addi c0_i32_3757 v3108
  v3109.toNat
def k0_dev102 (d0 : Dev nD) : Nat :=
  let c0_i32_3808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3807 : BitVec 32 := 1#32
  let v3148 : BitVec 32 := Scalar.muli v7 c1_i32_3807
  let v3149 : BitVec 32 := Scalar.addi c0_i32_3808 v3148
  v3149.toNat
def k0_dev103 (d0 : Dev nD) : Nat :=
  let c0_i32_3858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3857 : BitVec 32 := 1#32
  let v3189 : BitVec 32 := Scalar.muli v4 c1_i32_3857
  let v3190 : BitVec 32 := Scalar.addi c0_i32_3858 v3189
  v3190.toNat
def k0_dev104 (d0 : Dev nD) : Nat :=
  let c0_i32_3907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_3906 : BitVec 32 := 1#32
  let v3229 : BitVec 32 := Scalar.muli v7 c1_i32_3906
  let v3230 : BitVec 32 := Scalar.addi c0_i32_3907 v3229
  v3230.toNat
def k0_dev105 (d0 : Dev nD) : Nat :=
  let c0_i32_3957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_3956 : BitVec 32 := 1#32
  let v3270 : BitVec 32 := Scalar.muli v4 c1_i32_3956
  let v3271 : BitVec 32 := Scalar.addi c0_i32_3957 v3270
  v3271.toNat
def k0_dev106 (d0 : Dev nD) : Nat :=
  let c0_i32_4006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4005 : BitVec 32 := 1#32
  let v3310 : BitVec 32 := Scalar.muli v7 c1_i32_4005
  let v3311 : BitVec 32 := Scalar.addi c0_i32_4006 v3310
  v3311.toNat
def k0_dev107 (d0 : Dev nD) : Nat :=
  let c0_i32_4051 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4050 : BitVec 32 := 1#32
  let v3351 : BitVec 32 := Scalar.muli v7 c1_i32_4050
  let v3352 : BitVec 32 := Scalar.addi c0_i32_4051 v3351
  v3352.toNat
def k0_dev108 (d0 : Dev nD) : Nat :=
  let c0_i32_4059 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4058 : BitVec 32 := 1#32
  let v3353 : BitVec 32 := Scalar.muli v4 c1_i32_4058
  let v3354 : BitVec 32 := Scalar.addi c0_i32_4059 v3353
  v3354.toNat
def k0_dev109 (d0 : Dev nD) : Nat :=
  let c0_i32_4103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4102 : BitVec 32 := 1#32
  let v3393 : BitVec 32 := Scalar.muli v4 c1_i32_4102
  let v3394 : BitVec 32 := Scalar.addi c0_i32_4103 v3393
  v3394.toNat
def k0_dev110 (d0 : Dev nD) : Nat :=
  let c0_i32_4111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4110 : BitVec 32 := 1#32
  let v3395 : BitVec 32 := Scalar.muli v7 c1_i32_4110
  let v3396 : BitVec 32 := Scalar.addi c0_i32_4111 v3395
  v3396.toNat
def k0_dev111 (d0 : Dev nD) : Nat :=
  let c0_i32_4162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4161 : BitVec 32 := 1#32
  let v3436 : BitVec 32 := Scalar.muli v4 c1_i32_4161
  let v3437 : BitVec 32 := Scalar.addi c0_i32_4162 v3436
  v3437.toNat
def k0_dev112 (d0 : Dev nD) : Nat :=
  let c0_i32_4213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4212 : BitVec 32 := 1#32
  let v3476 : BitVec 32 := Scalar.muli v7 c1_i32_4212
  let v3477 : BitVec 32 := Scalar.addi c0_i32_4213 v3476
  v3477.toNat
def k0_dev113 (d0 : Dev nD) : Nat :=
  let c0_i32_4263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4262 : BitVec 32 := 1#32
  let v3517 : BitVec 32 := Scalar.muli v4 c1_i32_4262
  let v3518 : BitVec 32 := Scalar.addi c0_i32_4263 v3517
  v3518.toNat
def k0_dev114 (d0 : Dev nD) : Nat :=
  let c0_i32_4312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4311 : BitVec 32 := 1#32
  let v3557 : BitVec 32 := Scalar.muli v7 c1_i32_4311
  let v3558 : BitVec 32 := Scalar.addi c0_i32_4312 v3557
  v3558.toNat
def k0_dev115 (d0 : Dev nD) : Nat :=
  let c0_i32_4362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4361 : BitVec 32 := 1#32
  let v3598 : BitVec 32 := Scalar.muli v4 c1_i32_4361
  let v3599 : BitVec 32 := Scalar.addi c0_i32_4362 v3598
  v3599.toNat
def k0_dev116 (d0 : Dev nD) : Nat :=
  let c0_i32_4411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4410 : BitVec 32 := 1#32
  let v3638 : BitVec 32 := Scalar.muli v7 c1_i32_4410
  let v3639 : BitVec 32 := Scalar.addi c0_i32_4411 v3638
  v3639.toNat
def k0_dev117 (d0 : Dev nD) : Nat :=
  let c0_i32_4456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4455 : BitVec 32 := 1#32
  let v3679 : BitVec 32 := Scalar.muli v7 c1_i32_4455
  let v3680 : BitVec 32 := Scalar.addi c0_i32_4456 v3679
  v3680.toNat
def k0_dev118 (d0 : Dev nD) : Nat :=
  let c0_i32_4464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4463 : BitVec 32 := 1#32
  let v3681 : BitVec 32 := Scalar.muli v4 c1_i32_4463
  let v3682 : BitVec 32 := Scalar.addi c0_i32_4464 v3681
  v3682.toNat
def k0_dev119 (d0 : Dev nD) : Nat :=
  let c0_i32_4508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4507 : BitVec 32 := 1#32
  let v3721 : BitVec 32 := Scalar.muli v4 c1_i32_4507
  let v3722 : BitVec 32 := Scalar.addi c0_i32_4508 v3721
  v3722.toNat
def k0_dev120 (d0 : Dev nD) : Nat :=
  let c0_i32_4516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4515 : BitVec 32 := 1#32
  let v3723 : BitVec 32 := Scalar.muli v7 c1_i32_4515
  let v3724 : BitVec 32 := Scalar.addi c0_i32_4516 v3723
  v3724.toNat
def k0_dev121 (d0 : Dev nD) : Nat :=
  let c0_i32_4567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4566 : BitVec 32 := 1#32
  let v3764 : BitVec 32 := Scalar.muli v4 c1_i32_4566
  let v3765 : BitVec 32 := Scalar.addi c0_i32_4567 v3764
  v3765.toNat
def k0_dev122 (d0 : Dev nD) : Nat :=
  let c0_i32_4618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4617 : BitVec 32 := 1#32
  let v3804 : BitVec 32 := Scalar.muli v7 c1_i32_4617
  let v3805 : BitVec 32 := Scalar.addi c0_i32_4618 v3804
  v3805.toNat
def k0_dev123 (d0 : Dev nD) : Nat :=
  let c0_i32_4668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4667 : BitVec 32 := 1#32
  let v3845 : BitVec 32 := Scalar.muli v4 c1_i32_4667
  let v3846 : BitVec 32 := Scalar.addi c0_i32_4668 v3845
  v3846.toNat
def k0_dev124 (d0 : Dev nD) : Nat :=
  let c0_i32_4717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4716 : BitVec 32 := 1#32
  let v3885 : BitVec 32 := Scalar.muli v7 c1_i32_4716
  let v3886 : BitVec 32 := Scalar.addi c0_i32_4717 v3885
  v3886.toNat
def k0_dev125 (d0 : Dev nD) : Nat :=
  let c0_i32_4767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4766 : BitVec 32 := 1#32
  let v3926 : BitVec 32 := Scalar.muli v4 c1_i32_4766
  let v3927 : BitVec 32 := Scalar.addi c0_i32_4767 v3926
  v3927.toNat
def k0_dev126 (d0 : Dev nD) : Nat :=
  let c0_i32_4816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4815 : BitVec 32 := 1#32
  let v3966 : BitVec 32 := Scalar.muli v7 c1_i32_4815
  let v3967 : BitVec 32 := Scalar.addi c0_i32_4816 v3966
  v3967.toNat
def k0_dev127 (d0 : Dev nD) : Nat :=
  let c0_i32_4861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4860 : BitVec 32 := 1#32
  let v4007 : BitVec 32 := Scalar.muli v7 c1_i32_4860
  let v4008 : BitVec 32 := Scalar.addi c0_i32_4861 v4007
  v4008.toNat
def k0_dev128 (d0 : Dev nD) : Nat :=
  let c0_i32_4869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4868 : BitVec 32 := 1#32
  let v4009 : BitVec 32 := Scalar.muli v4 c1_i32_4868
  let v4010 : BitVec 32 := Scalar.addi c0_i32_4869 v4009
  v4010.toNat
def k0_dev129 (d0 : Dev nD) : Nat :=
  let c0_i32_4913 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4912 : BitVec 32 := 1#32
  let v4049 : BitVec 32 := Scalar.muli v4 c1_i32_4912
  let v4050 : BitVec 32 := Scalar.addi c0_i32_4913 v4049
  v4050.toNat
def k0_dev130 (d0 : Dev nD) : Nat :=
  let c0_i32_4921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_4920 : BitVec 32 := 1#32
  let v4051 : BitVec 32 := Scalar.muli v7 c1_i32_4920
  let v4052 : BitVec 32 := Scalar.addi c0_i32_4921 v4051
  v4052.toNat
def k0_dev131 (d0 : Dev nD) : Nat :=
  let c0_i32_4972 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_4971 : BitVec 32 := 1#32
  let v4092 : BitVec 32 := Scalar.muli v4 c1_i32_4971
  let v4093 : BitVec 32 := Scalar.addi c0_i32_4972 v4092
  v4093.toNat
def k0_dev132 (d0 : Dev nD) : Nat :=
  let c0_i32_5023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5022 : BitVec 32 := 1#32
  let v4132 : BitVec 32 := Scalar.muli v7 c1_i32_5022
  let v4133 : BitVec 32 := Scalar.addi c0_i32_5023 v4132
  v4133.toNat
def k0_dev133 (d0 : Dev nD) : Nat :=
  let c0_i32_5073 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5072 : BitVec 32 := 1#32
  let v4173 : BitVec 32 := Scalar.muli v4 c1_i32_5072
  let v4174 : BitVec 32 := Scalar.addi c0_i32_5073 v4173
  v4174.toNat
def k0_dev134 (d0 : Dev nD) : Nat :=
  let c0_i32_5122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5121 : BitVec 32 := 1#32
  let v4213 : BitVec 32 := Scalar.muli v7 c1_i32_5121
  let v4214 : BitVec 32 := Scalar.addi c0_i32_5122 v4213
  v4214.toNat
def k0_dev135 (d0 : Dev nD) : Nat :=
  let c0_i32_5172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5171 : BitVec 32 := 1#32
  let v4254 : BitVec 32 := Scalar.muli v4 c1_i32_5171
  let v4255 : BitVec 32 := Scalar.addi c0_i32_5172 v4254
  v4255.toNat
def k0_dev136 (d0 : Dev nD) : Nat :=
  let c0_i32_5221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5220 : BitVec 32 := 1#32
  let v4294 : BitVec 32 := Scalar.muli v7 c1_i32_5220
  let v4295 : BitVec 32 := Scalar.addi c0_i32_5221 v4294
  v4295.toNat
def k0_dev137 (d0 : Dev nD) : Nat :=
  let c0_i32_5266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5265 : BitVec 32 := 1#32
  let v4335 : BitVec 32 := Scalar.muli v7 c1_i32_5265
  let v4336 : BitVec 32 := Scalar.addi c0_i32_5266 v4335
  v4336.toNat
def k0_dev138 (d0 : Dev nD) : Nat :=
  let c0_i32_5274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5273 : BitVec 32 := 1#32
  let v4337 : BitVec 32 := Scalar.muli v4 c1_i32_5273
  let v4338 : BitVec 32 := Scalar.addi c0_i32_5274 v4337
  v4338.toNat
def k0_dev139 (d0 : Dev nD) : Nat :=
  let c0_i32_5318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5317 : BitVec 32 := 1#32
  let v4377 : BitVec 32 := Scalar.muli v4 c1_i32_5317
  let v4378 : BitVec 32 := Scalar.addi c0_i32_5318 v4377
  v4378.toNat
def k0_dev140 (d0 : Dev nD) : Nat :=
  let c0_i32_5326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5325 : BitVec 32 := 1#32
  let v4379 : BitVec 32 := Scalar.muli v7 c1_i32_5325
  let v4380 : BitVec 32 := Scalar.addi c0_i32_5326 v4379
  v4380.toNat
def k0_dev141 (d0 : Dev nD) : Nat :=
  let c0_i32_5377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5376 : BitVec 32 := 1#32
  let v4420 : BitVec 32 := Scalar.muli v4 c1_i32_5376
  let v4421 : BitVec 32 := Scalar.addi c0_i32_5377 v4420
  v4421.toNat
def k0_dev142 (d0 : Dev nD) : Nat :=
  let c0_i32_5428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5427 : BitVec 32 := 1#32
  let v4460 : BitVec 32 := Scalar.muli v7 c1_i32_5427
  let v4461 : BitVec 32 := Scalar.addi c0_i32_5428 v4460
  v4461.toNat
def k0_dev143 (d0 : Dev nD) : Nat :=
  let c0_i32_5478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5477 : BitVec 32 := 1#32
  let v4501 : BitVec 32 := Scalar.muli v4 c1_i32_5477
  let v4502 : BitVec 32 := Scalar.addi c0_i32_5478 v4501
  v4502.toNat
def k0_dev144 (d0 : Dev nD) : Nat :=
  let c0_i32_5527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5526 : BitVec 32 := 1#32
  let v4541 : BitVec 32 := Scalar.muli v7 c1_i32_5526
  let v4542 : BitVec 32 := Scalar.addi c0_i32_5527 v4541
  v4542.toNat
def k0_dev145 (d0 : Dev nD) : Nat :=
  let c0_i32_5577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5576 : BitVec 32 := 1#32
  let v4582 : BitVec 32 := Scalar.muli v4 c1_i32_5576
  let v4583 : BitVec 32 := Scalar.addi c0_i32_5577 v4582
  v4583.toNat
def k0_dev146 (d0 : Dev nD) : Nat :=
  let c0_i32_5626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5625 : BitVec 32 := 1#32
  let v4622 : BitVec 32 := Scalar.muli v7 c1_i32_5625
  let v4623 : BitVec 32 := Scalar.addi c0_i32_5626 v4622
  v4623.toNat
def k0_dev147 (d0 : Dev nD) : Nat :=
  let c0_i32_5676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_5675 : BitVec 32 := 1#32
  let v4663 : BitVec 32 := Scalar.muli v4 c1_i32_5675
  let v4664 : BitVec 32 := Scalar.addi c0_i32_5676 v4663
  v4664.toNat
def k0_dev148 (d0 : Dev nD) : Nat :=
  let c0_i32_5725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_5724 : BitVec 32 := 1#32
  let v4703 : BitVec 32 := Scalar.muli v7 c1_i32_5724
  let v4704 : BitVec 32 := Scalar.addi c0_i32_5725 v4703
  v4704.toNat
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Plan.lean ====
/-
  The kernel's text, folded: one definition per kind of step — a seed, a step of a ring, the last step, the drain of the
  sends —, each at a ring, a hop and a sub-column, and the printed body as the sequence of those steps.
-/
module

public import proofs.«01_k».proof.Proof.Gen.KernelIdeal.Frame
public import proofs.«01_k».proof.Proof.Gen.KernelIdeal.Skeleton

@[expose] public section

noncomputable section

namespace Cert.KernelIdeal.Rings

open Cert.KernelIdeal Cert.KernelIdeal.Gen
open Idealize.ShloMosaic Idealize.SL.Sem

variable {F : FTy → Type} [FloatOps F]

/-! ## The buffers and the semaphores of a ring

A ring is a `Bool`: `false` the one that sends to the right (the left half of the columns), `true` the one that sends to the left. -/

abbrev xM : Memref sig .tc .vmem S4096x256 .f32 := Memref.whole cc0_stg0_0
abbrev wM : Memref sig .tc .vmem S256x8192 .f32 := Memref.whole cc0_stg1_0
abbrev oM : Memref sig .tc .vmem S256x8192 .f32 := Memref.whole cc0_stg2_0

/-- The buffer a ring sends from, of two slots. -/
def sendB (r : Bool) : Memref sig .tc .vmem S2x256x4096 .f32 := match r with | false => Memref.whole cc0_scratch0 | true => Memref.whole cc0_scratch1
/-- The buffer a ring receives into, of two slots. -/
def recvB (r : Bool) : Memref sig .tc .vmem S2x256x4096 .f32 := match r with | false => Memref.whole cc0_scratch2 | true => Memref.whole cc0_scratch3
def sendSems (r : Bool) : DmaSems sig S2x4 := match r with | false => cc0_scratch4 | true => cc0_scratch5
def recvSems (r : Bool) : DmaSems sig S2x4 := match r with | false => cc0_scratch6 | true => cc0_scratch7
def creditS (r : Bool) : Sems sig S_ := match r with | false => cc0_scratch8 | true => cc0_scratch9
def barrierS : Sems sig S_ := SemArray.scalar (sig.barrier 0 rfl)

theorem inb_slot (s : Fin 2) (j : Fin 4) : ∀ a, (![s.val, 0, 1024 * j.val] : Fin 3 → Nat) a + S1x256x1024.size a ≤ S2x256x4096.size a := by
  revert s j; decide
theorem inb_sem (s : Fin 2) (j : Fin 4) : ∀ a, (![s.val, j.val] : Fin 2 → Nat) a + S1x1.size a ≤ S2x4.size a := by
  revert s j; decide

/-- The column block of the weights, and of the result, of sub-column `j` of a ring. -/
def col (r : Bool) (j : Fin 4) : Nat := match r with | false => 1024 * j.val | true => 4096 + 1024 * j.val
theorem inb_col (r : Bool) (j : Fin 4) : ∀ a, (![0, col r j] : Fin 2 → Nat) a + S256x1024.size a ≤ S256x8192.size a := by
  revert r j; decide

/-- Slot `s`, sub-column `j` of a two-slot buffer. -/
abbrev slotR (s : Fin 2) (j : Fin 4) := Rect.unit (s := S2x256x4096) ![s.val, 0, 1024 * j.val] S1x256x1024.size (inb_slot s j)
abbrev colR (r : Bool) (j : Fin 4) := Rect.unit (s := S256x8192) ![0, col r j] S256x1024.size (inb_col r j)

/-- The piece of a two-slot buffer that one transfer moves. -/
def pieceM (b : Memref sig .tc .vmem S2x256x4096 .f32) (s : Fin 2) (j : Fin 4) : Memref sig .tc .vmem S256x1024 .f32 :=
  (b.slice (slotR s j) (fun _ => rfl)).squeeze S256x1024 squeezes_S1x256x1024_S256x1024
def semAt (q : DmaSems sig S2x4) (s : Fin 2) (j : Fin 4) : DmaSem sig :=
  ((q.slice (Rect.unit (s := S2x4) ![s.val, j.val] S1x1.size (inb_sem s j))).squeeze S_ squeezes_S1x1_S_).sem

/-- The neighbour a ring sends to, and the neighbour it returns credits to, as the kernel computes them. -/
def dst (r : Bool) (d : Dev nD) : Dev nD := match r with | false => ⟨k0_dev3 d, k0_dev3_lt d⟩ | true => ⟨k0_dev4 d, k0_dev4_lt d⟩

/-- The rows of `x` a ring multiplies at hop `h`. -/
def rowsOff (r : Bool) (d : Dev nD) (h : Fin 15) : Fin 2 → Nat :=
  match r with | false => k0_off3 d (BitVec.ofNat 32 h.val) | true => k0_off4 d (BitVec.ofNat 32 h.val)
theorem rowsOff_inb (r : Bool) (d : Dev nD) (h : Fin 15) : ∀ a, rowsOff r d h a + S256x256.size a ≤ S4096x256.size a := by
  cases r
  · exact k0_off3_inb d h
  · exact k0_off4_inb d h
/-- The rows of `x` a ring multiplies before its first send. -/
def seedOff (r : Bool) (d : Dev nD) : Fin 2 → Nat := match r with | false => k0_off1 d | true => k0_off2 d
theorem seedOff_inb (r : Bool) (d : Dev nD) : ∀ a, seedOff r d a + S256x256.size a ≤ S4096x256.size a := by
  cases r
  · exact k0_off1_inb d
  · exact k0_off2_inb d

/-! ## The values -/

/-- A block of rows of `x`, and a block of columns of the weights, as the product reads them. -/
def castX (x : Vec F S256x256 .f32) : FVec F S256x256 .f32 := shapeCast S256x256 x shapeCasts_S256x256_S256x256
def castW (w : Vec F S256x1024 .f32) : FVec F S256x1024 .f32 := shapeCast S256x1024 w shapeCasts_S256x1024_S256x1024
/-- The product of a block of rows and a block of columns. -/
def prod (x : FVec F S256x256 .f32) (w : FVec F S256x1024 .f32) : FVec F S256x1024 .f32 :=
  matmul dot_S256x256_S256x1024_S256x1024_1_0_0_1_n_n none x w (constant S256x1024 .f32 0x00000000#32)
/-- What a seed stores: a product. -/
def seedVal (p : FVec F S256x1024 .f32) : FVec F S1x256x1024 .f32 := shapeCast S1x256x1024 p shapeCasts_S256x1024_S1x256x1024
/-- What arrived, and the device's own product added to it. -/
def accVal (p : FVec F S256x1024 .f32) (a : Vec F S1x256x1024 .f32) : FVec F S256x1024 .f32 :=
  addf (shapeCast S256x1024 a shapeCasts_S1x256x1024_S256x1024) p
/-- What a step stores in the slot it sends next. -/
def stepVal (p : FVec F S256x1024 .f32) (a : Vec F S1x256x1024 .f32) : FVec F S1x256x1024 .f32 :=
  shapeCast S1x256x1024 (accVal p a) shapeCasts_S256x1024_S1x256x1024
/-- What the last step stores in the result. -/
def lastVal (p : FVec F S256x1024 .f32) (a : Vec F S1x256x1024 .f32) : FVec F S256x1024 .f32 :=
  mulf (accVal p a) (logistic (accVal p a))

/-! ## The steps -/

/-- The programs of the kernel's body. -/
abbrev P (F : FTy → Type) [FloatOps F] (α : Type) := Prog (TpuEff nD τ sig (Elt F) Λ₀ .tc) α

def loadX (off : Fin 2 → Nat) (hoff : ∀ a, off a + S256x256.size a ≤ S4096x256.size a) : P F (Vec F S256x256 .f32) :=
  Prog.lift (.load xM (Rect.unit (s := S4096x256) off S256x256.size hoff).toLoadRect (View.loadsAt_vmem h_S256x256))
def loadW (r : Bool) (j : Fin 4) : P F (Vec F S256x1024 .f32) :=
  Prog.lift (.load wM (colR r j).toLoadRect (View.loadsAt_vmem h_S256x1024))
def loadPiece (b : Memref sig .tc .vmem S2x256x4096 .f32) (s : Fin 2) (j : Fin 4) : P F (Vec F S1x256x1024 .f32) :=
  Prog.lift (.load b (slotR s j).toLoadRect (View.loadsAt_vmem h_S1x256x1024))
def storePiece (b : Memref sig .tc .vmem S2x256x4096 .f32) (s : Fin 2) (j : Fin 4) (v : FVec F S1x256x1024 .f32) : P F PUnit :=
  Prog.lift (.store b (slotR s j) v Finset.univ (View.stores_vmem_bits_univ h_S1x256x1024 rfl) (.inl rfl))
def loadOut (r : Bool) (j : Fin 4) : P F (Vec F S256x1024 .f32) :=
  Prog.lift (.load oM (colR r j).toLoadRect (View.loadsAt_vmem h_S256x1024))
def storeOut (r : Bool) (j : Fin 4) (v : FVec F S256x1024 .f32) : P F PUnit :=
  Prog.lift (.store oM (colR r j) v Finset.univ (View.stores_vmem_bits_univ h_S256x1024 rfl) (.inl rfl))

/-- Start the transfer of a slot's piece to the neighbour. -/
def startSend (d : Dev nD) (r : Bool) (s : Fin 2) (j : Fin 4) : P F PUnit :=
  Prog.lift (.enqueueDma (pieceM (sendB r) s j) (.remote (Dev.tc (dst r d)) (pieceM (recvB r) s j) (.dma (semAt (sendSems r) s j)))
    (.dma (semAt (recvSems r) s j)) ((View.wordExact_bits rfl).reshape _ _) ((View.wordExact_bits rfl).reshape _ _) ⟨⟨rfl, Or.inl rfl⟩, trivial⟩)
/-- Wait for a piece to arrive. -/
def waitRecv (r : Bool) (s : Fin 2) (j : Fin 4) : P F PUnit :=
  Prog.lift (.waitDma2 (semAt (recvSems r) s j) (pieceM (sendB r) s j) (pieceM (recvB r) s j)
    ((View.wordExact_bits rfl).reshape _ _) ((View.wordExact_bits rfl).reshape _ _))
/-- Wait for a piece to have left. -/
def waitSent (r : Bool) (s : Fin 2) (j : Fin 4) : P F PUnit :=
  Prog.lift (.waitDma2 (semAt (sendSems r) s j) (pieceM (recvB r) s j) (pieceM (sendB r) s j)
    ((View.wordExact_bits rfl).reshape _ _) ((View.wordExact_bits rfl).reshape _ _))

def par (n : Nat) : Fin 2 := ⟨n % 2, Nat.mod_lt _ (by decide)⟩

/-- The seed: the product of the first chunk, stored in slot 0 and sent. -/
def seedStep (d : Dev nD) (k : Bool × Fin 4) : P F PUnit := do
  let x ← loadX (seedOff k.1 d) (seedOff_inb k.1 d)
  let w ← loadW k.1 k.2
  let _ ← loadPiece (F := F) (sendB k.1) 0 k.2
  storePiece (sendB k.1) 0 k.2 (seedVal (prod (castX x) (castW w)))
  startSend d k.1 0 k.2

/-- Hop `h < 14` of a sub-column from the arrival on: the product is added to what arrived and the sum is sent on. -/
def hopRest (d : Dev nD) (h : Fin 15) (k : Bool × Fin 4) (p : FVec F S256x1024 .f32) : P F PUnit := do
  if 1 ≤ h.val then waitSent k.1 (par (h.val + 1)) k.2 else pure ⟨⟩
  let a ← loadPiece (recvB k.1) (par h.val) k.2
  let _ ← loadPiece (F := F) (sendB k.1) (par (h.val + 1)) k.2
  storePiece (sendB k.1) (par (h.val + 1)) k.2 (stepVal p a)
  if k.2.val = 3 ∧ h.val ≤ 12 then semSignalWord (dst (!k.1) d) (creditS k.1).sem 1#32 else pure ⟨⟩
  if k.2.val = 0 ∧ 1 ≤ h.val then semWaitWord (creditS k.1).sem 1#32 else pure ⟨⟩
  startSend d k.1 (par (h.val + 1)) k.2

/-- Hop `h < 14` of a sub-column once its rows of `x` are read. -/
def hopFrom (d : Dev nD) (h : Fin 15) (k : Bool × Fin 4) (x : FVec F S256x256 .f32) : P F PUnit := do
  let w ← loadW k.1 k.2
  waitRecv k.1 (par h.val) k.2
  hopRest d h k (prod x (castW w))

/-- Hop `h < 14` of a sub-column. -/
def hopStep (d : Dev nD) (h : Fin 15) (k : Bool × Fin 4) : P F PUnit := do
  let x ← loadX (rowsOff k.1 d h) (rowsOff_inb k.1 d h)
  hopFrom d h k (castX x)

/-- The last hop: the sum is the whole sum, and its gated value is the result. -/
def lastStep (d : Dev nD) (k : Bool × Fin 4) : P F PUnit := do
  let x ← loadX (rowsOff k.1 d 14) (rowsOff_inb k.1 d 14)
  let w ← loadW k.1 k.2
  waitRecv k.1 0 k.2
  let a ← loadPiece (recvB k.1) 0 k.2
  let _ ← loadOut (F := F) k.1 k.2
  storeOut k.1 k.2 (lastVal (prod (castX x) (castW w)) a)

/-- The last two sends of a sub-column have left. -/
def drainStep (k : Bool × Fin 4) : P F PUnit := do
  waitSent k.1 1 k.2
  waitSent k.1 0 k.2

/-- The steps of a list, one after the other. -/
def each {α : Type} : List α → (α → P F PUnit) → P F PUnit
  | [], _ => pure ⟨⟩
  | a :: l, f => f a >>= fun _ => each l f

/-- The order in which the kernel takes the sub-columns of the two rings. -/
def keys : List (Bool × Fin 4) := [(false, 0), (true, 0), (false, 1), (true, 1), (false, 2), (true, 2), (false, 3), (true, 3)]
/-- The hops but the last. -/
def hops : List (Fin 15) := [0, 1, 2, 3, 4, 5, 6, 7, 8, 9, 10, 11, 12, 13]

/-- The neighbours told at the barrier. -/
def toLeft (d : Dev nD) : Dev nD := ⟨k0_dev1 d, k0_dev1_lt d⟩
def toRight (d : Dev nD) : Dev nD := ⟨k0_dev2 d, k0_dev2_lt d⟩

/-- The handshake with both neighbours. -/
def handshake (d : Dev nD) : P F PUnit := do
  semSignalWord (toLeft d) barrierS.sem 1#32
  semSignalWord (toRight d) barrierS.sem 1#32
  semWaitWord barrierS.sem 2#32

/-- The whole body. -/
def prog : P F PUnit := do
  let d ← Prog.lift .deviceId
  handshake d
  each keys (seedStep d)
  each hops fun h => each keys (hopStep d h)
  each keys (lastStep d)
  each keys drainStep

end Cert.KernelIdeal.Rings

end
-- ==== Proof.Cells.lean ====
/-
  The mesh, the semaphores by name, and the two orders of the protocol: what a device pays its neighbours, in the order in
  which it pays, and what it is paid, in the order in which it waits for it.
-/
module

public import proofs.«01_k».proof.Proof.Plan

@[expose] public section

noncomputable section

namespace Cert.KernelIdeal.Rings

open Cert.KernelIdeal Cert.KernelIdeal.Gen
open Idealize.ShloMosaic Idealize.ShloMosaic.TcCoe Idealize.SL.Sem

/-! ## The mesh -/

theorem dst_val (r : Bool) (d : Dev nD) : (dst r d).val = if r then (d.val + 15) % 16 else (d.val + 1) % 16 := by
  cases r
  · exact k0_dev3_eq d
  · exact k0_dev4_eq d

/-- A ring's two neighbours of a device undo each other. -/
theorem dst_dst (r : Bool) (d : Dev nD) : dst r (dst (!r) d) = d := by
  apply Fin.ext
  have h : d.val < 16 := d.isLt
  rw [dst_val, dst_val]
  cases r <;> simp <;> omega
theorem dst_dst' (r : Bool) (d : Dev nD) : dst (!r) (dst r d) = d := by
  have := dst_dst (!r) d; rwa [Bool.not_not] at this

theorem toLeft_eq (d : Dev nD) : toLeft d = dst true d := Fin.ext ((k0_dev1_eq d).trans (dst_val true d).symm)
theorem toRight_eq (d : Dev nD) : toRight d = dst false d := Fin.ext ((k0_dev2_eq d).trans (dst_val false d).symm)

/-- Going round a ring, as a permutation of the devices. -/
def around (r : Bool) : Dev nD ≃ Dev nD := ⟨dst r, dst (!r), dst_dst' r, dst_dst r⟩

/-! ## The semaphores -/

/-- The kernel's semaphores: the barrier's, a ring's credits, and a ring's send and receive semaphores by slot and sub-column. -/
inductive Kd : Type where
  | bar
  | cred (r : Bool)
  | send (r : Bool) (s : Fin 2) (j : Fin 4)
  | recv (r : Bool) (s : Fin 2) (j : Fin 4)
  deriving DecidableEq

/-- A number for each semaphore. -/
def Kd.code : Kd → ℕ
  | .bar => 0
  | .cred r => 1 + r.toNat
  | .send r s j => 3 + 8 * r.toNat + 4 * s.val + j.val
  | .recv r s j => 19 + 8 * r.toNat + 4 * s.val + j.val

theorem Kd.code_inj : Function.Injective Kd.code := by
  have hb : ∀ r : Bool, r.toNat < 2 := fun r => by cases r <;> decide
  intro k k' h
  cases k <;> cases k' <;> simp only [Kd.code] at h <;> first
    | rfl
    | (rename_i r r'; obtain rfl : r = r' := by
        { cases r <;> cases r' <;> first | rfl | (exact absurd h (by decide)) }
       rfl)
    | (rename_i r s j r' s' j'
       have h1 := hb r; have h2 := hb r'
       have e1 : r.toNat = r'.toNat := by omega
       have e2 : s = s' := by apply Fin.ext; omega
       have e3 : j = j' := by apply Fin.ext; omega
       have e0 : r = r' := by { cases r <;> cases r' <;> first | rfl | exact absurd e1 (by decide) }
       subst e0 e2 e3; rfl)
    | (exfalso; rename_i r _ _ r' _ _; have h1 := hb r; have h2 := hb r'; omega)
    | (exfalso; rename_i r r' _ _; have h1 := hb r; have h2 := hb r'; omega)
    | (exfalso; rename_i r _ _ r'; have h1 := hb r; have h2 := hb r'; omega)
    | (exfalso; omega)

def slotPairs : List (Fin 2 × Fin 4) := [(0, 0), (0, 1), (0, 2), (0, 3), (1, 0), (1, 1), (1, 2), (1, 3)]
/-- The scoped semaphores. -/
def ownKds : List Kd :=
  [.cred false, .cred true] ++ (slotPairs.flatMap fun p => [.send false p.1 p.2, .send true p.1 p.2, .recv false p.1 p.2, .recv true p.1 p.2])
def allKds : List Kd := .bar :: ownKds

theorem mem_allKds (k : Kd) : k ∈ allKds := by
  rcases k with _ | r | ⟨r, s, j⟩ | ⟨r, s, j⟩
  · decide
  · revert r; decide
  · revert r s j; decide
  · revert r s j; decide

instance : Fintype Kd := ⟨allKds.toFinset, fun k => List.mem_toFinset.mpr (mem_allKds k)⟩

/-- The semaphore of a kind. -/
def Kd.sem : Kd → SemLoc sig
  | .bar => .reg barrierS.sem
  | .cred r => .reg (creditS r).sem
  | .send r s j => .dma (semAt (sendSems r) s j)
  | .recv r s j => .dma (semAt (recvSems r) s j)

/-- A number for each semaphore of the program. -/
def semCode : SemLoc sig → ℕ
  | .reg s => 2 * s.val
  | .dma s => 2 * s.val + 1

theorem sem_codes : (allKds.map fun k => semCode k.sem).Nodup := by decide

theorem sem_inj : Function.Injective Kd.sem := fun a b h =>
  List.inj_on_of_nodup_map sem_codes (mem_allKds a) (mem_allKds b) (congrArg semCode h)

/-- The kind a semaphore is of, if the kernel's own. -/
def kindOf (s : SemLoc sig) : Option Kd := allKds.find? fun k => decide (k.sem = s)
theorem kindOf_sem (k : Kd) : kindOf k.sem = some k := by
  unfold kindOf
  cases h : allKds.find? (fun k' => decide (k'.sem = k.sem)) with
  | none => exact absurd (List.find?_eq_none.mp h k (mem_allKds k)) (by simp)
  | some k' => exact congrArg some (sem_inj (by simpa using List.find?_some h))

/-- The cell of a kind on a device. -/
abbrev kcell (c : Dev nD) (k : Kd) : GSem nD τ sig := ((c : Thread nD τ), k.sem)
theorem kcell_inj : Function.Injective (fun ck : Dev nD × Kd => kcell ck.1 ck.2) := by
  rintro ⟨c, k⟩ ⟨c', k'⟩ h
  have h1 : c = c' := congrArg (fun g : GSem nD τ sig => g.1.1) h
  have h2 : k = k' := sem_inj (congrArg Prod.snd h)
  subst h1 h2; rfl

/-! ## Payments -/

/-- What a device pays a neighbour: its word at the barrier to the device a ring sends to; credit `k` of a ring, to the
    device the ring receives from; the transfer of send `h` of a sub-column, to the device the ring sends to. -/
inductive Pay : Type where
  | bar (r : Bool)
  | cred (r : Bool) (k : ℕ)
  | send (r : Bool) (j : Fin 4) (h : ℕ)
  deriving DecidableEq

/-- The semaphore a payment raises. -/
def Pay.kind : Pay → Kd
  | .bar _ => .bar
  | .cred r _ => .cred r
  | .send r j h => .recv r (par h) j
/-- Who is paid, and by whom one is paid. -/
def Pay.ring : Pay → Bool
  | .bar r => r
  | .cred r _ => !r
  | .send r _ _ => r
/-- Where a payment stands in the order of waiting. -/
def Pay.level : Pay → ℕ
  | .bar _ => 1
  | .cred _ k => 2 * k + 3
  | .send _ _ h => 2 * h + 2

/-- What a device pays at a step of hop `h`. -/
def hopPays (h : ℕ) (k : Bool × Fin 4) : List Pay :=
  (if k.2.val = 3 ∧ h ≤ 12 then [.cred k.1 h] else []) ++ [.send k.1 k.2 (h + 1)]
/-- What it is paid at that step. -/
def hopGets (h : ℕ) (k : Bool × Fin 4) : List Pay :=
  .send k.1 k.2 h :: (if k.2.val = 0 ∧ 1 ≤ h then [.cred k.1 (h - 1)] else [])

/-- What a device pays from hop `n` on, -/
def paysFrom (n : ℕ) : List Pay := (hops.drop n).flatMap fun h => keys.flatMap (hopPays h.val)
/-- in its seeds, -/
def seedPays : List Pay := keys.map fun k => .send k.1 k.2 0
/-- and in all. -/
def allPays : List Pay := .bar true :: .bar false :: (seedPays ++ paysFrom 0)
/-- What a device is paid in its last hop, -/
def lastGets : List Pay := keys.map fun k => .send k.1 k.2 14
/-- from hop `n` on, -/
def getsFrom (n : ℕ) : List Pay := ((hops.drop n).flatMap fun h => keys.flatMap (hopGets h.val)) ++ lastGets
/-- and in all. -/
def allGets : List Pay := .bar true :: .bar false :: getsFrom 0

/-- What is paid is what is waited for. -/
theorem pays_perm : allPays.Perm allGets := by decide +kernel

theorem hops_drop : ∀ n : Fin 14, hops.drop n.val = ⟨n.val, by omega⟩ :: hops.drop (n.val + 1) := by decide

theorem mem_hops_drop : ∀ (n : Fin 15), ∀ h ∈ hops.drop n.val, n.val ≤ h.val := by decide

theorem paysFrom_succ {n : ℕ} (hn : n < 14) : paysFrom n = keys.flatMap (hopPays n) ++ paysFrom (n + 1) := by
  unfold paysFrom; rw [hops_drop ⟨n, hn⟩]; rfl
theorem getsFrom_succ {n : ℕ} (hn : n < 14) : getsFrom n = keys.flatMap (hopGets n) ++ getsFrom (n + 1) := by
  unfold getsFrom; rw [hops_drop ⟨n, hn⟩, List.flatMap_cons, List.append_assoc]
theorem paysFrom_end : paysFrom 14 = [] := by decide
theorem getsFrom_end : getsFrom 14 = lastGets := by decide

theorem level_hopPays {h : ℕ} {k : Bool × Fin 4} {x : Pay} (hx : x ∈ hopPays h k) : 2 * h + 2 < x.level := by
  unfold hopPays at hx
  rcases List.mem_append.mp hx with hx | hx
  · split at hx
    · rw [List.mem_singleton.mp hx]; show _ < 2 * h + 3; omega
    · exact absurd hx List.not_mem_nil
  · rw [List.mem_singleton.mp hx]; show _ < 2 * (h + 1) + 2; omega
theorem level_flatMap {h : ℕ} {l : List (Bool × Fin 4)} {x : Pay} (hx : x ∈ l.flatMap (hopPays h)) : 2 * h + 2 < x.level := by
  obtain ⟨k, -, hk⟩ := List.mem_flatMap.mp hx
  exact level_hopPays hk
theorem level_paysFrom {n : ℕ} (hn : n ≤ 14) {x : Pay} (hx : x ∈ paysFrom n) : 2 * n + 2 < x.level := by
  obtain ⟨h, hh, hx⟩ := List.mem_flatMap.mp hx
  have := mem_hops_drop ⟨n, by omega⟩ h hh
  have h2 := level_flatMap hx
  dsimp only at this
  omega

theorem pay_bounds : ∀ x ∈ allPays, x.level < 40 := by decide +kernel

/-! ## The order of the sub-columns -/

/-- The sub-columns of a ring before one's own are taken before it. -/
theorem keys_before : ∀ n : Fin 8, ∀ k ∈ (keys.drop n.val).head?, ∀ i : Fin 4, i < k.2 → (k.1, i) ∈ keys.take n.val := by decide

theorem keys_prev {done rest : List (Bool × Fin 4)} {k : Bool × Fin 4} (h : keys = done ++ k :: rest) {i : Fin 4} (hi : i < k.2) :
    (k.1, i) ∈ done := by
  have hl : done.length < 8 := by
    have := congrArg List.length h
    rw [List.length_append, List.length_cons] at this
    have h8 : keys.length = 8 := rfl
    omega
  have h1 : keys.drop done.length = k :: rest := by rw [h, List.drop_left]
  have h2 : keys.take done.length = done := by rw [h, List.take_left]
  have := keys_before ⟨done.length, hl⟩ k (by show k ∈ (keys.drop done.length).head?; rw [h1]; exact rfl) i hi
  exact h2 ▸ this

end Cert.KernelIdeal.Rings

end
-- ==== Proof.Contents.lean ====
/-
  The pieces of the buffers that the transfers move, and what each transfer carries.
-/
module

public import proofs.«01_k».proof.Proof.Cells
public import Idealize.ShloMosaic.Lib.Release
public import Idealize.ShloMosaic.Lib.Pipeline.Value

@[expose] public section

noncomputable section

namespace Cert.KernelIdeal.Rings

open Cert.KernelIdeal Cert.KernelIdeal.Gen
open Idealize.ShloMosaic Idealize.ShloMosaic.TcCoe Idealize.SL.Sem

variable {F : FTy → Type} [FloatOps F]

/-! ## Pieces -/

theorem isWhole_sendB (r : Bool) : (sendB r).IsWhole := by cases r <;> exact Memref.isWhole_whole _
theorem isWhole_recvB (r : Bool) : (recvB r).IsWhole := by cases r <;> exact Memref.isWhole_whole _

/-- A piece's elements are those of its slot and sub-column. -/
theorem set_piece (b : Memref sig .tc .vmem S2x256x4096 .f32) (s : Fin 2) (j : Fin 4) :
    (pieceM b s j).view.set = (b.access (slotR s j)).set := by
  unfold pieceM; exact View.set_reshape _ _

/-- What a piece holds, read as the kernel loads it. -/
theorem read_piece (b : Memref sig .tc .vmem S2x256x4096 .f32) (s : Fin 2) (j : Fin 4) (f : b.view.ty.Contents (Elt F)) :
    shapeCast S256x1024 (b.view.readAt (Elt F) (slotR s j).toLoadRect f) shapeCasts_S1x256x1024_S256x1024 = (pieceM b s j).view.read (Elt F) f := rfl

/-- What a piece holds after a store of a block. -/
theorem read_stored (b : Memref sig .tc .vmem S2x256x4096 .f32) (s : Fin 2) (j : Fin 4) (f : b.view.ty.Contents (Elt F)) (v : FVec F S256x1024 .f32) :
    (pieceM b s j).view.read (Elt F) ((b.access (slotR s j)).write (Elt F) f (shapeCast S1x256x1024 v shapeCasts_S256x1024_S1x256x1024) Finset.univ) = v := by
  rw [← read_piece]
  have : (b.view.readAt (Elt F) (slotR s j).toLoadRect ((b.access (slotR s j)).write (Elt F) f (shapeCast S1x256x1024 v shapeCasts_S256x1024_S1x256x1024) Finset.univ))
      = shapeCast S1x256x1024 v shapeCasts_S256x1024_S1x256x1024 := View.read_write_univ _ _
  rw [this]
  exact shapeCast_shapeCast v shapeCasts_S256x1024_S1x256x1024 shapeCasts_S1x256x1024_S256x1024

/-- The units that a piece's transfer counts. -/
@[irreducible] def N : ℕ := (pieceM (sendB false) 0 0).view.dmaCredit
theorem N_pos : 0 < N := by unfold N; exact View.dmaCredit_pos _ (by decide)
theorem credit_send (r : Bool) (s : Fin 2) (j : Fin 4) : (pieceM (sendB r) s j).view.dmaCredit = N := by unfold N; cases r <;> rfl
theorem credit_recv (r : Bool) (s : Fin 2) (j : Fin 4) : (pieceM (recvB r) s j).view.dmaCredit = N := by unfold N; cases r <;> rfl

/-! ## The values carried -/

variable (m : (ℓ : Loc nD τ sig) → Buf (Elt F) ℓ)

/-- A device's blocks of the two arguments, as its kernel reads them. -/
def xAt (c : Dev nD) : (cc0_stg0_0 : Ref sig .tc).ty.Contents (Elt F) :=
  (win0_0.blk (0 : Fin 1)).view.read (Elt F) (m ((c : Thread nD τ).loc main_arg0))
def wAt (c : Dev nD) : (cc0_stg1_0 : Ref sig .tc).ty.Contents (Elt F) :=
  (win0_1.blk (0 : Fin 1)).view.read (Elt F) (m ((c : Thread nD τ).loc main_arg1))

/-- The product a device forms: the rows of its `x` at an offset, and a block of columns of its weights. -/
def prodAt (c : Dev nD) (off : Fin 2 → Nat) (hoff : ∀ a, off a + S256x256.size a ≤ S4096x256.size a) (r : Bool) (j : Fin 4) : FVec F S256x1024 .f32 :=
  prod (castX (xM.view.readAt (Elt F) (Rect.unit (s := S4096x256) off S256x256.size hoff).toLoadRect (xAt m c)))
    (castW (wM.view.readAt (Elt F) (colR r j).toLoadRect (wAt m c)))

/-- A hop as the kernel's tables index it. -/
def hopIx (h : ℕ) : Fin 15 := ⟨h % 15, Nat.mod_lt _ (by decide)⟩
theorem hopIx_val (h : Fin 15) : hopIx h.val = h := Fin.ext (Nat.mod_eq_of_lt h.isLt)

def seedProd (c : Dev nD) (r : Bool) (j : Fin 4) : FVec F S256x1024 .f32 := prodAt m c (seedOff r c) (seedOff_inb r c) r j
def hopProd (c : Dev nD) (r : Bool) (j : Fin 4) (h : Fin 15) : FVec F S256x1024 .f32 := prodAt m c (rowsOff r c h) (rowsOff_inb r c h) r j

/-- What a device sends: the seed's product first, then what it received last with its own product added. -/
def sentV (r : Bool) (j : Fin 4) : ℕ → Dev nD → FVec F S256x1024 .f32
  | 0, c => seedProd m c r j
  | h + 1, c => addf (sentV r j h (dst (!r) c)) (hopProd m c r j (hopIx h))
/-- What it receives as send `h` of its neighbour. -/
def gotV (c : Dev nD) (r : Bool) (j : Fin 4) (h : ℕ) : FVec F S256x1024 .f32 := sentV m r j h (dst (!r) c)

theorem sentV_succ (c : Dev nD) (r : Bool) (j : Fin 4) (h : Fin 15) :
    sentV m r j (h.val + 1) c = addf (gotV m c r j h.val) (hopProd m c r j h) := by
  show addf _ (hopProd m c r j (hopIx h.val)) = _
  rw [hopIx_val]; rfl

/-- The whole sum of a block, and the gated value that is stored. -/
def wholeV (c : Dev nD) (r : Bool) (j : Fin 4) : FVec F S256x1024 .f32 := addf (gotV m c r j 14) (hopProd m c r j 14)
def outV (c : Dev nD) (r : Bool) (j : Fin 4) : FVec F S256x1024 .f32 := mulf (wholeV m c r j) (logistic (wholeV m c r j))

end Cert.KernelIdeal.Rings

end
-- ==== Proof.Proto.lean ====
/-
  The protocol: what each wait hands over, and what a device holds between two steps.

  Every receive slot of a device is written fifteen times in turn by one neighbour. The two semaphores of a transfer
  count rounds, one per send on that slot: the receive side hands its owner the piece with what was sent, the send side
  hands back the piece that was sent from. A slot is given back to its writer through an invariant (the library's
  `Release`): its reader releases it, and what reaches the writer, by the barrier for the first two sends and by the
  credits for the others, is only the fact that it did. Credits may arrive out of order, and two may be under way at once;
  so credit `k` carries the facts of all sends up to `k + 2`, and the credits of a ring are the thirteen units of one
  round.
-/
module

public import proofs.«01_k».proof.Proof.Contents
public import Idealize.ShloMosaic.Lib.Pipeline.Launch
public import Idealize.ShloMosaic.Lib.Pipeline.Kit
public import Idealize.ShloMosaic.Lib.Tactic

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The resources -/

/-- A receive slot: device, ring, slot and sub-column. -/
abbrev SK : Type := Dev nD × Bool × Fin 2 × Fin 4
abbrev UB : Type := URounds (GSem nD τ sig) ℕ
/-- The records of the staging, of the rounds and of the slots, under one name. -/
def UU : Type := UR sig nD τ × (UB × USlots SK)
instance : URA UU := inferInstanceAs (URA (UR sig nD τ × (UB × USlots SK)))
def inP : Emb (UR sig nD τ) UU := (Emb.inl : Emb (UR sig nD τ) (UR sig nD τ × (UB × USlots SK)))
def inR : Emb UB UU := (Emb.inl : Emb UB (UB × USlots SK)).trans (Emb.inr : Emb (UB × USlots SK) (UR sig nD τ × (UB × USlots SK)))
def inS : Emb (USlots SK) UU := (Emb.inr : Emb (USlots SK) (UB × USlots SK)).trans (Emb.inr : Emb (UB × USlots SK) (UR sig nD τ × (UB × USlots SK)))

local notation "𝕄" => MT nD τ sig ℕ (Elt F) ℕ UU ℕ

/-- The records, as assertions. -/
def upU : Emb UU (MT nD τ sig ℕ (Elt F) ℕ UU ℕ) := (uEmb (nD := nD) (τ := τ) (sig := sig) (Ix := ℕ) (Val := Elt F) (Name := ℕ) (U := UU) (Lvl := ℕ)).toEmb
instance upU_landsIn : (upU (F := F)).LandsIn (upEmb : UEmb _ 𝕄) := by unfold upU; infer_instance
def EP : Emb (UR sig nD τ) (MT nD τ sig ℕ (Elt F) ℕ UU ℕ) := inP.trans upU
/-- The rounds' part, -/
def ER : Emb UB (MT nD τ sig ℕ (Elt F) ℕ UU ℕ) := inR.trans upU
/-- and the slots'. -/
def ES : Emb (USlots SK) (MT nD τ sig ℕ (Elt F) ℕ UU ℕ) := inS.trans upU

instance EP_landsIn : (EP (F := F)).LandsIn (upEmb : UEmb _ 𝕄) := by unfold EP; infer_instance
instance ER_landsIn : (ER (F := F)).LandsIn (upEmb : UEmb _ 𝕄) := by unfold ER; infer_instance
instance ES_landsIn : (ES (F := F)).LandsIn (upEmb : UEmb _ 𝕄) := by unfold ES; infer_instance

/-! ## Conjunctions along a list -/

section SepL
variable {A : Type}

/-- The assertions of a list's members, side by side. -/
def sepL (Φ : A → sProp 𝕄) : List A → sProp 𝕄
  | [] => iprop(emp)
  | a :: l => iprop(Φ a ∗ sepL Φ l)

instance sepL_persistent (Φ : A → sProp 𝕄) [∀ a, BI.Persistent (Φ a)] : ∀ l, BI.Persistent (sepL Φ l)
  | [] => by unfold sepL; infer_instance
  | a :: l => by unfold sepL; have := sepL_persistent Φ l; infer_instance
instance sepL_storable (Φ : A → sProp 𝕄) [∀ a, BI.Storable (upEmb : UEmb _ 𝕄) (Φ a)] : ∀ l, BI.Storable (upEmb : UEmb _ 𝕄) (sepL Φ l)
  | [] => by unfold sepL; infer_instance
  | a :: l => by unfold sepL; have := sepL_storable Φ l; infer_instance

theorem sep_both {P Q : sProp 𝕄} (h : P ⊢ Q) (h' : Q ⊢ P) : P = Q := BI.Entails.antisymm h h'

theorem sepL_append (Φ : A → sProp 𝕄) (l l' : List A) : sepL Φ (l ++ l') = iprop(sepL Φ l ∗ sepL Φ l') := by
  induction l with
  | nil => show sepL Φ l' = iprop(emp ∗ sepL Φ l'); exact sep_both (by iintro H; iframe) (by iintro ⟨-, H⟩; iexact H)
  | cons a l ih =>
    show iprop(Φ a ∗ sepL Φ (l ++ l')) = iprop((Φ a ∗ sepL Φ l) ∗ sepL Φ l')
    rw [ih]; exact sep_both (by iintro ⟨H, H', H''⟩; iframe) (by iintro ⟨⟨H, H'⟩, H''⟩; iframe)
theorem sepL_single (Φ : A → sProp 𝕄) (a : A) : sepL Φ [a] = Φ a := by
  show iprop(Φ a ∗ emp) = Φ a
  exact sep_both (by iintro ⟨H, -⟩; iexact H) (by iintro H; iframe)
theorem sepL_perm (Φ : A → sProp 𝕄) {l l' : List A} (h : l.Perm l') : sepL Φ l = sepL Φ l' := by
  induction h with
  | nil => rfl
  | cons a _ ih => show iprop(Φ a ∗ _) = iprop(Φ a ∗ _); rw [ih]
  | swap a b l =>
    show iprop(Φ b ∗ Φ a ∗ sepL Φ l) = iprop(Φ a ∗ Φ b ∗ sepL Φ l)
    exact sep_both (by iintro ⟨H, H', H''⟩; iframe) (by iintro ⟨H, H', H''⟩; iframe)
  | trans _ _ ih ih' => exact ih.trans ih'
theorem sepL_mono {Φ Ψ : A → sProp 𝕄} (l : List A) (h : ∀ a ∈ l, Φ a ⊢ Ψ a) : sepL Φ l ⊢ sepL Ψ l := by
  induction l with
  | nil => exact BI.Entails.refl _
  | cons a l ih => exact BI.sep_mono (h a List.mem_cons_self) (ih fun b hb => h b (List.mem_cons_of_mem _ hb))
theorem sepL_elim {Φ : A → sProp 𝕄} {l : List A} {a : A} (h : a ∈ l) : sepL Φ l ⊢ Φ a := by
  induction l with
  | nil => exact absurd h List.not_mem_nil
  | cons b l ih =>
    rcases List.mem_cons.mp h with rfl | h
    · show iprop(Φ a ∗ sepL Φ l) ⊢ Φ a
      iintro ⟨H, -⟩; iexact H
    · show iprop(Φ b ∗ sepL Φ l) ⊢ Φ a
      iintro ⟨-, H⟩; iapply (ih h); iexact H
theorem sepL_sep (Φ Ψ : A → sProp 𝕄) (l : List A) : sepL (fun a => iprop(Φ a ∗ Ψ a)) l = iprop(sepL Φ l ∗ sepL Ψ l) := by
  induction l with
  | nil => show iprop(emp) = iprop(emp ∗ emp); exact sep_both (by iintro H; iframe) (by iintro ⟨-, H⟩; iexact H)
  | cons a l ih =>
    show iprop((Φ a ∗ Ψ a) ∗ sepL (fun a => iprop(Φ a ∗ Ψ a)) l) = iprop((Φ a ∗ sepL Φ l) ∗ Ψ a ∗ sepL Ψ l)
    rw [ih]; exact sep_both (by iintro ⟨⟨H, H'⟩, H'', H3⟩; iframe) (by iintro ⟨⟨H, H'⟩, H'', H3⟩; iframe)
/-- What holds persistently of each member holds of all. -/
theorem sepL_intro {Q : sProp 𝕄} [BI.Persistent Q] {Φ : A → sProp 𝕄} (l : List A) (h : ∀ a ∈ l, Q ⊢ Φ a) : Q ⊢ sepL Φ l := by
  induction l with
  | nil => show Q ⊢ iprop(emp); iintro -; ipureintro; trivial
  | cons a l ih =>
    show Q ⊢ iprop(Φ a ∗ sepL Φ l)
    iintro #H
    isplitl []
    · iapply (h a List.mem_cons_self); iexact H
    · iapply (ih fun b hb => h b (List.mem_cons_of_mem _ hb)); iexact H

/-- One of a finite family. -/
theorem all_elim [DecidableEq A] (Φ : A → sProp 𝕄) {S : Finset A} {a : A} (h : a ∈ S) : bigSep S Φ ⊢ Φ a := bigSep_elim h

end SepL

variable (m : (ℓ : Loc nD τ sig) → Buf (Elt F) ℓ)

/-! ## The facts that travel -/

/-- Send `i` of a sub-column may start: the slot was released for it, and the wait before it on the slot's semaphore is over. -/
def can (d : Dev nD) (r : Bool) (i : ℕ) (j : Fin 4) : sProp 𝕄 :=
  iprop(released ES (d, r, par i, j) (i / 2 + 1) ∗ reached ER (kcell d (.recv r (par i) j)) (i / 2))
instance can_persistent (d : Dev nD) (r : Bool) (i : ℕ) (j : Fin 4) : BI.Persistent (can (F := F) d r i j) := by unfold can; infer_instance
instance can_storable (d : Dev nD) (r : Bool) (i : ℕ) (j : Fin 4) : BI.Storable (upEmb : UEmb _ 𝕄) (can (F := F) d r i j) := by unfold can; infer_instance
/-- The first `n` sends of a sub-column may start, -/
def canK (d : Dev nD) (r : Bool) (j : Fin 4) (n : ℕ) : sProp 𝕄 := sepL (fun i => can d r i j) (List.range n)
instance canK_persistent (d : Dev nD) (r : Bool) (j : Fin 4) (n : ℕ) : BI.Persistent (canK (F := F) d r j n) := by unfold canK; infer_instance
instance canK_storable (d : Dev nD) (r : Bool) (j : Fin 4) (n : ℕ) : BI.Storable (upEmb : UEmb _ 𝕄) (canK (F := F) d r j n) := by unfold canK; infer_instance
/-- and of every sub-column. -/
def canAll (d : Dev nD) (r : Bool) (n : ℕ) : sProp 𝕄 := sepL (fun j => canK d r j n) [0, 1, 2, 3]
instance canAll_persistent (d : Dev nD) (r : Bool) (n : ℕ) : BI.Persistent (canAll (F := F) d r n) := by unfold canAll; infer_instance
instance canAll_storable (d : Dev nD) (r : Bool) (n : ℕ) : BI.Storable (upEmb : UEmb _ 𝕄) (canAll (F := F) d r n) := by unfold canAll; infer_instance

/-! ## The schedule -/

/-- A device's piece of the buffer a ring receives into, at any contents. -/
def recvSlot (d : Dev nD) (r : Bool) (s : Fin 2) (j : Fin 4) : sProp 𝕄 :=
  slot ((pieceM (recvB r) s j).view.loc (d : Thread nD τ)) (pieceM (recvB r) s j).view.set
/-- A device's piece of the buffer a ring sends from, at any contents. -/
def sendSlot (d : Dev nD) (r : Bool) (s : Fin 2) (j : Fin 4) : sProp 𝕄 :=
  slot ((pieceM (sendB r) s j).view.loc (d : Thread nD τ)) (pieceM (sendB r) s j).view.set
/-- The slot of a key. -/
def slotAt (k : SK) : sProp 𝕄 := recvSlot k.1 k.2.1 k.2.2.1 k.2.2.2

instance recvSlot_storable (d : Dev nD) (r : Bool) (s : Fin 2) (j : Fin 4) : BI.Storable (upEmb : UEmb _ 𝕄) (recvSlot (F := F) d r s j) := by unfold recvSlot; infer_instance
instance sendSlot_storable (d : Dev nD) (r : Bool) (s : Fin 2) (j : Fin 4) : BI.Storable (upEmb : UEmb _ 𝕄) (sendSlot (F := F) d r s j) := by unfold sendSlot; infer_instance
instance slotAt_storable (k : SK) : BI.Storable (upEmb : UEmb _ 𝕄) (slotAt (F := F) k) := by unfold slotAt; infer_instance

/-- A device's piece of the buffer a ring receives into, holding what send `h` of its neighbour carried. -/
def gotPiece (d : Dev nD) (r : Bool) (j : Fin 4) (h : ℕ) : sProp 𝕄 :=
  owns (d : Thread nD τ) (pieceM (recvB r) (par h) j) fullShare (gotV m d r j h)
instance gotPiece_storable (d : Dev nD) (r : Bool) (j : Fin 4) (h : ℕ) : BI.Storable (upEmb : UEmb _ 𝕄) (gotPiece m d r j h) := by unfold gotPiece; infer_instance

/-- The duties of a round. -/
def duties (k : Kd) (R : ℕ) : Finset ℕ :=
  match k with
  | .bar => if R = 0 then {0, 1} else ∅
  | .cred _ => if R = 0 then Finset.range 13 else ∅
  | .send _ s _ => if 2 * R + s.val ≤ 14 then {0} else ∅
  | .recv _ s _ => if 2 * R + s.val ≤ 14 then {0} else ∅

/-- What a duty counts. -/
def amount (k : Kd) : ℕ := match k with | .bar => 1 | .cred _ => 1 | .send _ _ _ => N | .recv _ _ _ => N

/-- What a duty hands over. -/
def payload (d : Dev nD) (k : Kd) (R n : ℕ) : sProp 𝕄 :=
  match k with
  | .bar => canAll (dst (decide (n = 1)) d) (decide (n = 1)) 2
  | .cred r => canAll (dst r d) r (n + 3)
  | .send r s j => sendSlot d r s j
  | .recv r s j => owns (d : Thread nD τ) (pieceM (recvB r) s j) fullShare (gotV m d r j (2 * R + s.val))

instance payload_storable (d : Dev nD) (k : Kd) (R n : ℕ) : BI.Storable (upEmb : UEmb _ 𝕄) (payload m d k R n) := by
  unfold payload; cases k <;> infer_instance

/-- The schedule of the kernel's semaphores. -/
def Rd : Rounds.Schedule (GSem nD τ sig) ℕ 𝕄 where
  duties g R := match kindOf g.2 with | some k => duties k R | none => ∅
  amount g _ _ := match kindOf g.2 with | some k => amount k | none => 1
  payload g R n := match kindOf g.2 with | some k => payload m g.1.1 k R n | none => iprop(emp)
  amount_pos g R n _ := by
    cases kindOf g.2 with
    | none => exact Nat.one_pos
    | some k => cases k <;> first | exact Nat.one_pos | exact N_pos

instance Rd_storable (g : GSem nD τ sig) (R n : ℕ) : BI.Storable (upEmb : UEmb _ 𝕄) ((Rd m).payload g R n) := by
  show BI.Storable upEmb (match kindOf g.2 with | some k => payload m g.1.1 k R n | none => iprop(emp))
  cases kindOf g.2 <;> infer_instance

theorem Rd_duties (c : Dev nD) (k : Kd) (R : ℕ) : (Rd m).duties (kcell c k) R = duties k R := by
  show (match kindOf k.sem with | some k => duties k R | none => ∅) = _
  rw [kindOf_sem]
theorem Rd_amount (c : Dev nD) (k : Kd) (R n : ℕ) : (Rd m).amount (kcell c k) R n = amount k := by
  show (match kindOf k.sem with | some k => amount k | none => 1) = _
  rw [kindOf_sem]
theorem Rd_payload (c : Dev nD) (k : Kd) (R n : ℕ) : (Rd m).payload (kcell c k) R n = payload m c k R n := by
  show (match kindOf k.sem with | some k => payload m c k R n | none => iprop(emp)) = _
  rw [kindOf_sem]
theorem Rd_expect (c : Dev nD) (k : Kd) (R : ℕ) : (Rd m).expect (kcell c k) R = (duties k R).card * amount k := by
  unfold Schedule.expect Schedule.amountOf
  rw [Rd_duties, Finset.sum_congr rfl fun n _ => Rd_amount m c k R n, Finset.sum_const, smul_eq_mul]

/-- A send or receive semaphore's round has one duty, as long as there are sends. -/
theorem two_par (h : ℕ) : 2 * (h / 2) + (par h).val = h := Nat.div_add_mod h 2
theorem par_add (h : ℕ) : par (h + 2) = par h := Fin.ext (Nat.add_mod_right h 2)
theorem duties_send (r : Bool) (j : Fin 4) {h : ℕ} (hh : h ≤ 14) : duties (.send r (par h) j) (h / 2) = {0} := by
  show (if 2 * (h / 2) + (par h).val ≤ 14 then ({0} : Finset ℕ) else ∅) = _
  rw [two_par, if_pos hh]
theorem duties_recv (r : Bool) (j : Fin 4) {h : ℕ} (hh : h ≤ 14) : duties (.recv r (par h) j) (h / 2) = {0} := by
  show (if 2 * (h / 2) + (par h).val ≤ 14 then ({0} : Finset ℕ) else ∅) = _
  rw [two_par, if_pos hh]

/-! ## What is owed, and what is due -/

/-- A payment, as the units a device owes; -/
def Pay.owed (c : Dev nD) (x : Pay) : CellTallies nD τ sig ℕ := tallyAt (kcell (dst x.ring c) x.kind) x.level (amount x.kind)
/-- the same payment, as the units it is due. -/
def Pay.due (c : Dev nD) (x : Pay) : CellTallies nD τ sig ℕ := tallyAt (kcell c x.kind) x.level (amount x.kind)

def owedL (c : Dev nD) : List Pay → CellTallies nD τ sig ℕ
  | [] => 0
  | x :: l => owedL c l + x.owed c

/-- What a device needs to make a payment: its duty's token; for a send, its own semaphore's too, and the right to take the slot. -/
def Pay.supply (c : Dev nD) (x : Pay) : sProp 𝕄 :=
  match x with
  | .bar r => dutyTok ER (kcell (dst r c) .bar) 0 (if r then 0 else 1)
  | .cred r k => dutyTok ER (kcell (dst (!r) c) (.cred r)) 0 k
  | .send r j h => iprop(dutyTok ER (kcell (dst r c) (.recv r (par h) j)) (h / 2) 0 ∗ dutyTok ER (kcell c (.send r (par h) j)) (h / 2) 0
      ∗ writeTok ES (dst r c, r, par h, j) (h / 2 + 1))

/-- The levels: an index is its own level. -/
def Lv (g : GSem nD τ sig) : Finset ℕ := if g.1.2 = .tc then Finset.range 40 else ∅
def lv (_ : GSem nD τ sig) (i : ℕ) : ℕ := i
theorem Lv_tc (c : Dev nD) (s : SemLoc sig) : Lv ((c : Thread nD τ), s) = Finset.range 40 := if_pos rfl
theorem Lv_of_ne (g : GSem nD τ sig) (h : g.1.2 ≠ .tc) : Lv g = ∅ := if_neg h

/-- The levels of all semaphores, as devices know them. -/
@[irreducible] def Levs : sProp 𝕄 := levAts Lv lv
theorem Levs_eq : (Levs : sProp 𝕄) = levAts Lv lv := by unfold Levs; rfl
instance Levs_persistent : BI.Persistent (Levs (F := F)) := by unfold Levs; infer_instance

theorem owedL_pos {c : Dev nD} {l : List Pay} {g : GSem nD τ sig} {i : ℕ} (h : 0 < owedL c l g i) :
    ∃ x ∈ l, g = kcell (dst x.ring c) x.kind ∧ i = x.level := by
  induction l with
  | nil => exact absurd h (Nat.lt_irrefl 0)
  | cons x l ih =>
    rcases Pipeline.add_pos_cases (D₁ := owedL c l) (D₂ := x.owed c) h with h | h
    · obtain ⟨y, hy, e⟩ := ih h
      exact ⟨y, List.mem_cons_of_mem _ hy, e⟩
    · unfold Pay.owed at h
      rw [tallyAt_apply] at h
      by_cases hg : g = kcell (dst x.ring c) x.kind ∧ i = x.level
      · exact ⟨x, List.mem_cons_self, hg⟩
      · rw [if_neg hg] at h; exact absurd h (Nat.lt_irrefl 0)

/-- A device may wait below everything it still has to pay. -/
theorem may_wait (c : Dev nD) (s : SemLoc sig) (i : ℕ) (hi : i < 40) (l : List Pay) (hl : ∀ x ∈ l, i < x.level ∧ x.level < 40) :
    (Levs : sProp 𝕄) ⊢ MayWait (c : Thread nD τ) s i (owedL c l) := by
  rw [Levs_eq]
  exact Pipeline.mayWait_of_levAts (by rw [Lv_tc]; exact Finset.mem_range.mpr hi) fun g i' h => by
    obtain ⟨x, hx, rfl, rfl⟩ := owedL_pos h
    exact ⟨by rw [Lv_tc]; exact Finset.mem_range.mpr (hl x hx).2, (hl x hx).1⟩

end Cert.KernelIdeal.Rings

end
-- ==== Proof.Ops.lean ====
/-
  The kernel's transfers, waits and signals, each as one rule: what a device hands in, and what it has afterwards.
-/
module

public import proofs.«01_k».proof.Proof.Proto

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (κ : GSem nD τ sig → ℕ) (ιs : SK → ℕ)

/-- No loop of the kernel needs a variant. -/
def 𝒱₀ : Variants := Variants.none

/-- A program of the body, on a device, ends with `Q`. -/
abbrev runs (c : Dev nD) {α : Type} (p : P F α) (Q : α → sProp 𝕄) : sProp 𝕄 :=
  wp frame (wpE (defs₀ (F := F)) 𝒱₀ (c : Thread nD τ) none) Set.univ p Q

/-- What all devices know: the invariants of all semaphores and slots, that every semaphore is in its first round, the levels. -/
@[irreducible] def Recs : sProp 𝕄 := iprop(
  bigSep (Finset.univ : Finset (Dev nD × Kd)) (fun ck => cellInv ER (Rd m) (κ (kcell ck.1 ck.2)) (kcell ck.1 ck.2))
  ∗ bigSep (Finset.univ : Finset (Dev nD × Kd)) (fun ck => reached ER (kcell ck.1 ck.2) 0)
  ∗ bigSep (Finset.univ : Finset SK) (fun k => slotInv ES (ιs k) k (slotAt k))
  ∗ Levs)

instance Recs_persistent : BI.Persistent (Recs m κ ιs) := by unfold Recs; infer_instance

variable {m κ ιs}

theorem Recs_cell (c : Dev nD) (k : Kd) : Recs m κ ιs ⊢ cellInv ER (Rd m) (κ (kcell c k)) (kcell c k) := by
  unfold Recs; iintro ⟨H, -⟩
  iapply (all_elim (fun ck : Dev nD × Kd => cellInv ER (Rd m) (κ (kcell ck.1 ck.2)) (kcell ck.1 ck.2)) (Finset.mem_univ (c, k))); iexact H
theorem Recs_reached (c : Dev nD) (k : Kd) : Recs m κ ιs ⊢ reached ER (kcell c k) 0 := by
  unfold Recs; iintro ⟨-, H, -⟩
  iapply (all_elim (fun ck : Dev nD × Kd => (reached ER (kcell ck.1 ck.2) 0 : sProp 𝕄)) (Finset.mem_univ (c, k))); iexact H
theorem Recs_slot (k : SK) : Recs m κ ιs ⊢ slotInv ES (ιs k) k (slotAt k) := by
  unfold Recs; iintro ⟨-, -, H, -⟩
  iapply (all_elim (fun k : SK => (slotInv ES (ιs k) k (slotAt k) : sProp 𝕄)) (Finset.mem_univ k)); iexact H
theorem Recs_levs : Recs m κ ιs ⊢ Levs := by
  unfold Recs; iintro ⟨-, -, -, H⟩; iexact H

/-- What a device still owes, with any record of its waits. -/
def OW (c : Dev nD) (l : List Pay) : sProp 𝕄 := iprop(∃ W, owes (c : Thread nD τ) (owedL c l) W)

/-! ## Transfers -/

theorem mem_send (c : Dev nD) (r : Bool) (j : Fin 4) {h : ℕ} (hh : h ≤ 14) : 0 ∈ (Rd m).duties (kcell c (.send r (par h) j)) (h / 2) := by
  rw [Rd_duties, duties_send r j hh]; exact Finset.mem_singleton_self 0
theorem mem_recv (c : Dev nD) (r : Bool) (j : Fin 4) {h : ℕ} (hh : h ≤ 14) : 0 ∈ (Rd m).duties (kcell c (.recv r (par h) j)) (h / 2) := by
  rw [Rd_duties, duties_recv r j hh]; exact Finset.mem_singleton_self 0

/-- What a send hands back: the piece that was sent from. -/
theorem pay_sent (c : Dev nD) (r : Bool) (j : Fin 4) (h : ℕ) (f : Buf (Elt F) ((pieceM (sendB r) (par h) j).view.loc (c : Thread nD τ))) :
    ((pieceM (sendB r) (par h) j).view.loc (c : Thread nD τ) ↦[(pieceM (sendB r) (par h) j).view.set]{fullShare} f : sProp 𝕄)
      ⊢ (Rd m).payload (kcell c (.send r (par h) j)) (h / 2) 0 := by
  rw [Rd_payload]
  show _ ⊢ sendSlot c r (par h) j
  unfold sendSlot slot
  iintro H; iexists f; iexact H
/-- What it hands over: the neighbour's piece, holding what was sent. -/
theorem pay_got (c : Dev nD) (r : Bool) (j : Fin 4) (h : ℕ) (f : Buf (Elt F) ((pieceM (sendB r) (par h) j).view.loc (c : Thread nD τ)))
    (fd : Buf (Elt F) ((pieceM (recvB r) (par h) j).view.loc (dst r c : Thread nD τ)))
    (hf : (pieceM (sendB r) (par h) j).view.read (Elt F) f = sentV m r j h c) :
    ((pieceM (recvB r) (par h) j).view.loc (dst r c : Thread nD τ) ↦[(pieceM (recvB r) (par h) j).view.set]{fullShare}
        (pieceM (recvB r) (par h) j).view.write (Elt F) fd ((pieceM (sendB r) (par h) j).view.read (Elt F) f) Finset.univ : sProp 𝕄)
      ⊢ (Rd m).payload (kcell (dst r c) (.recv r (par h) j)) (h / 2) 0 := by
  rw [Rd_payload]
  unfold payload owns gotV
  simp only
  rw [two_par, dst_dst', ← hf]
  iintro H
  iexists ((pieceM (recvB r) (par h) j).view.write (Elt F) fd ((pieceM (sendB r) (par h) j).view.read (Elt F) f) Finset.univ)
  isplitr [H]; · ipureintro; exact View.read_write_univ _ _
  iexact H

/-- Send `h` of a sub-column starts. -/
theorem startSend_op (c : Dev nD) (r : Bool) (j : Fin 4) {h : ℕ} (hh : h ≤ 14) (l : List Pay) (Q : PUnit → sProp 𝕄) :
    iprop(Recs m κ ιs ∗ owns (c : Thread nD τ) (pieceM (sendB r) (par h) j) fullShare (sentV m r j h c) ∗ OW c (.send r j h :: l)
        ∗ Pay.supply c (.send r j h) ∗ can (dst r c) r h j ∗ reached ER (kcell c (.send r (par h) j)) (h / 2))
      ⊢ iprop(((cred (tallyAt (kcell c (.send r (par h) j)) 0 N) ∗ OW c l) -∗ Q ⟨⟩) -∗ runs c (startSend c r (par h) j) Q) := by
  unfold OW Pay.supply can owns
  iintro ⟨#HR, ⟨%f, %hf, Hs⟩, ⟨%W, HO⟩, ⟨Htr, Hts, Hw⟩, ⟨#Hrel, #Hrc⟩, #Hrs⟩ Hk
  imod (slot_take ES (Set.mem_univ (ιs (dst r c, r, par h, j))) (S := slotAt (dst r c, r, par h, j)) (h / 2 + 1)) $$ [Hw] with Hslot
  · isplitr; · iapply (Recs_slot (m := m) (κ := κ)); iexact HR
    isplitr; · iexact Hrel
    iexact Hw
  ihave Hslot' := (show slotAt (F := F) (dst r c, r, par h, j) ⊢ slot ((pieceM (recvB r) (par h) j).view.loc (dst r c : Thread nD τ)) (pieceM (recvB r) (par h) j).view.set from BI.Entails.refl _) $$ Hslot
  unfold slot
  icases Hslot' with ⟨%fd, Hd⟩
  unfold startSend Prog.lift
  have h1 := mem_send (m := m) c r j hh
  have h2 := mem_recv (m := m) (dst r c) r j hh
  iapply (Rounds.wp_send_pointsTo 𝒱₀ ER (Rd m) (c : Thread nD τ) none (c' := (dst r c : Thread nD τ)) (q := fullShare) (fs := f) (fd := fd)
      (src := pieceM (sendB r) (par h) j) (dst := pieceM (recvB r) (par h) j) (hsc := rfl) (sS := .dma (semAt (sendSems r) (par h) j)) (sem := .dma (semAt (recvSems r) (par h) j))
      (hsrc := ((View.wordExact_bits rfl).reshape _ _)) (hdst := ((View.wordExact_bits rfl).reshape _ _)) (hsem := ⟨⟨rfl, Or.inl rfl⟩, trivial⟩)
      (κ₁ := κ (kcell c (.send r (par h) j))) (κ₂ := κ (kcell (dst r c) (.recv r (par h) j)))
      (h1) (h2) (2 * h + 2) 0 N (credit_recv r (par h) j)
      (Rd_amount m c (.send r (par h) j) (h / 2) 0) (Rd_amount m (dst r c) (.recv r (par h) j) (h / 2) 0) (owedL c l) rfl
      (W := W) (pay_sent c r j h f) (pay_got c r j h f fd hf) (Es := Set.univ)) $$ [Hs Hd HO Htr Hts]
  · isplitr; · iapply (Recs_cell (m := m) (κ := κ) (ιs := ιs) c (.send r (par h) j)); iexact HR
    isplitr; · iapply (Recs_cell (m := m) (κ := κ) (ιs := ιs) (dst r c) (.recv r (par h) j)); iexact HR
    isplitl [Hs]; · iexact Hs
    isplitl [Hd]; · iexact Hd
    isplitl [HO]; · iexact HO
    isplitl [Hts]; · iexact Hts
    isplitr; · iexact Hrs
    isplitl [Htr]; · iexact Htr
    iexact Hrc
  iintro ⟨Hc, HO⟩
  rw [wp_ret]; imodintro
  iapply Hk
  isplitl [Hc]; · iexact Hc
  iexists W; iexact HO

/-! ## Waits -/

/-- A wait for a whole round of a device's own semaphore. -/
theorem wait_round (c : Dev nD) (k : Kd) (R n i : ℕ) (w : TpuEff nD τ sig (Elt F) Λ₀ .tc PUnit)
    (hw : ∀ K : PUnit → sProp 𝕄, wpE (defs₀ (F := F)) 𝒱₀ (c : Thread nD τ) none Set.univ w K = waitSpec (c : Thread nD τ) Set.univ k.sem n K)
    (hn : n = (duties k R).card * amount k) (hi : i < 40) (l : List Pay) (hl : ∀ x ∈ l, i < x.level ∧ x.level < 40) (Q : PUnit → sProp 𝕄) :
    iprop(Recs m κ ιs ∗ cred (tallyAt (kcell c k) i n) ∗ OW c l ∗ atPos ER (kcell c k) R ∅ 0)
      ⊢ iprop(((OW c l ∗ atPos ER (kcell c k) (R + 1) ∅ 0 ∗ reached ER (kcell c k) (R + 1) ∗ bigSep (duties k R) (payload m c k R)) -∗ Q ⟨⟩)
          -∗ runs c (Prog.lift w) Q) := by
  unfold OW Prog.lift
  iintro ⟨#HR, Hc, ⟨%W, HO⟩, Hat⟩ Hk
  iapply (Rounds.wp_wait_rest_token 𝒱₀ ER (Rd m) (c : Thread nD τ) none (κ := κ (kcell c k)) (sm := k.sem) (k' := n) hw
      (Set.mem_univ _) i (O := owedL c l) (W := W) (R := R) (m := 0) (T := ∅)
      ((Nat.zero_add n).trans (hn.trans (Rd_expect m c k R).symm))) $$ [Hc HO Hat]
  · isplitr; · iapply (Recs_cell (ιs := ιs) c k); iexact HR
    isplitl [Hc]; · iexact Hc
    isplitl [HO]; · iexact HO
    isplitr
    · iapply (may_wait c _ i hi l hl); iapply (Recs_levs (m := m) (κ := κ) (ιs := ιs)); iexact HR
    iexact Hat
  iintro ⟨HO, Hat, #Hr, Hpay⟩
  rw [wp_ret]; imodintro
  iapply Hk
  isplitl [HO]; · iexists _; iexact HO
  isplitl [Hat]; · iexact Hat
  isplitr; · iexact Hr
  have e : bigSep ((Rd m).duties (kcell c k) R \ ∅) (fun d => (Rd m).payload (kcell c k) R d) = bigSep (duties k R) (payload m c k R) := by
    rw [Rd_duties, Finset.sdiff_empty]
    exact congrArg _ (funext fun d => Rd_payload m c k R d)
  iapply (Entails.of_eq e)
  iexact Hpay

/-- The wait for what send `h` of the neighbour carries. -/
theorem waitRecv_op (c : Dev nD) (r : Bool) (j : Fin 4) {h : ℕ} (hh : h ≤ 14) (l : List Pay) (hl : ∀ x ∈ l, 2 * h + 2 < x.level ∧ x.level < 40)
    (Q : PUnit → sProp 𝕄) :
    iprop(Recs m κ ιs ∗ cred (Pay.due c (.send r j h)) ∗ OW c l ∗ atPos ER (kcell c (.recv r (par h) j)) (h / 2) ∅ 0)
      ⊢ iprop(((OW c l ∗ atPos ER (kcell c (.recv r (par h) j)) (h / 2 + 1) ∅ 0 ∗ reached ER (kcell c (.recv r (par h) j)) (h / 2 + 1)
          ∗ gotPiece m c r j h) -∗ Q ⟨⟩) -∗ runs c (waitRecv r (par h) j) Q) := by
  have e : bigSep (duties (.recv r (par h) j) (h / 2)) (payload m c (.recv r (par h) j) (h / 2)) ⊢ gotPiece m c r j h := by
    rw [duties_recv r j hh, bigSep_singleton]
    unfold payload gotPiece
    simp only
    rw [two_par]
  rw [show Pay.due c (.send r j h) = tallyAt (kcell c (.recv r (par h) j)) (2 * h + 2) N from rfl]
  iintro H Hk
  iapply (wait_round (m := m) (κ := κ) (ιs := ιs) c (.recv r (par h) j) (h / 2) N (2 * h + 2) _
    (fun K => (wpE_waitDma2_eq 𝒱₀ (c : Thread nD τ) none Set.univ K).trans (by rw [credit_recv]; rfl))
    (by rw [duties_recv r j hh]; exact (Nat.one_mul N).symm) (by omega) l hl Q) $$ H
  iintro ⟨HO, Hat, #Hr, Hp⟩
  iapply Hk
  isplitl [HO]; · iexact HO
  isplitl [Hat]; · iexact Hat
  isplitr; · iexact Hr
  iapply e; iexact Hp

/-- The wait for send `h` to have left. -/
theorem waitSent_op (c : Dev nD) (r : Bool) (j : Fin 4) {h : ℕ} (hh : h ≤ 14) (l : List Pay) (hl : ∀ x ∈ l, 0 < x.level ∧ x.level < 40)
    (Q : PUnit → sProp 𝕄) :
    iprop(Recs m κ ιs ∗ cred (tallyAt (kcell c (.send r (par h) j)) 0 N) ∗ OW c l ∗ atPos ER (kcell c (.send r (par h) j)) (h / 2) ∅ 0)
      ⊢ iprop(((OW c l ∗ atPos ER (kcell c (.send r (par h) j)) (h / 2 + 1) ∅ 0 ∗ reached ER (kcell c (.send r (par h) j)) (h / 2 + 1)
          ∗ sendSlot c r (par h) j) -∗ Q ⟨⟩) -∗ runs c (waitSent r (par h) j) Q) := by
  have e : bigSep (duties (.send r (par h) j) (h / 2)) (payload m c (.send r (par h) j) (h / 2)) ⊢ sendSlot c r (par h) j := by
    rw [duties_send r j hh, bigSep_singleton]; exact BI.Entails.refl _
  iintro H Hk
  iapply (wait_round (m := m) (κ := κ) (ιs := ιs) c (.send r (par h) j) (h / 2) N 0 _
    (fun K => (wpE_waitDma2_eq 𝒱₀ (c : Thread nD τ) none Set.univ K).trans (by rw [credit_send]; rfl))
    (by rw [duties_send r j hh]; exact (Nat.one_mul N).symm) (by omega) l hl Q) $$ H
  iintro ⟨HO, Hat, #Hr, Hp⟩
  iapply Hk
  isplitl [HO]; · iexact HO
  isplitl [Hat]; · iexact Hat
  isplitr; · iexact Hr
  iapply e; iexact Hp

/-! ## Credits -/

theorem can_mono (d : Dev nD) (r : Bool) {n n' : ℕ} (h : n ≤ n') : canAll (F := F) d r n' ⊢ canAll d r n := by
  unfold canAll
  refine sepL_mono _ fun j _ => ?_
  unfold canK
  refine sepL_intro _ fun i hi => sepL_elim ?_
  exact List.mem_range.mpr ((List.mem_range.mp hi).trans_le h)

/-- The credit that a device returns: what it knows of the slots it has released. -/
theorem creditSignal_op (c : Dev nD) (r : Bool) {k : ℕ} (hk : k < 13) (l : List Pay) (Q : PUnit → sProp 𝕄) :
    iprop(Recs m κ ιs ∗ OW c (.cred r k :: l) ∗ Pay.supply c (.cred r k) ∗ canAll c r (k + 3))
      ⊢ iprop((OW c l -∗ Q ⟨⟩) -∗ runs c (semSignalWord (dst (!r) c) (creditS r).sem 1#32) Q) := by
  have hd : k ∈ (Rd m).duties (kcell (dst (!r) c) (.cred r)) 0 := by rw [Rd_duties]; exact Finset.mem_range.mpr hk
  have hp : canAll c r (k + 3) ⊢ (Rd m).payload (kcell (dst (!r) c) (.cred r)) 0 k := by
    rw [Rd_payload]
    show _ ⊢ canAll (dst r (dst (!r) c)) r (k + 3)
    rw [dst_dst]
  unfold OW Pay.supply semSignalWord
  iintro ⟨#HR, ⟨%W, HO⟩, Ht, #Hcan⟩ Hk
  iapply (Rounds.wp_signal 𝒱₀ ER (Rd m) (c : Thread nD τ) none (dst := (dst (!r) c : Thread nD τ)) (κ := κ (kcell (dst (!r) c) (.cred r)))
      (r := 0) (d := k) hd (Rd_amount m (dst (!r) c) (.cred r) 0 k) (2 * k + 3) (owedL c l) rfl) $$ [HO Ht]
  · isplitr; · iapply (Recs_cell (ιs := ιs) (dst (!r) c) (.cred r)); iexact HR
    isplitl [HO]; · iexact HO
    isplitl [Ht]; · iexact Ht
    isplitr; · iapply (show canAll c r (k + 3) ⊢ (Rd m).payload ((dst (!r) c : Thread nD τ), SemLoc.reg (creditS r).sem) 0 k from hp); iexact Hcan
    iapply (Recs_reached (ιs := ιs) (dst (!r) c) (.cred r)); iexact HR
  iintro HO
  rw [wp_ret]; imodintro
  iapply Hk; iexists W; iexact HO

/-- What a device holds of a ring's credits after `n` of them. -/
def Rg (c : Dev nD) (r : Bool) (n : ℕ) : sProp 𝕄 :=
  if n < 13 then iprop(∃ T : Finset ℕ, ⌜T ⊆ Finset.range 13 ∧ n ≤ T.card⌝ ∗ atPos ER (kcell c (.cred r)) 0 T n
      ∗ bigSep T (fun k => canAll (dst r c) r (k + 3)))
    else atPos ER (kcell c (.cred r)) 1 ∅ 0

/-- The wait for one more credit: by then the slots of at least that many are released. -/
theorem creditWait_op (c : Dev nD) (r : Bool) {n : ℕ} (hn : n ≤ 12) (l : List Pay) (hl : ∀ x ∈ l, 2 * n + 3 < x.level ∧ x.level < 40)
    (Q : PUnit → sProp 𝕄) :
    iprop(Recs m κ ιs ∗ cred (Pay.due c (.cred r n)) ∗ OW c l ∗ Rg c r n)
      ⊢ iprop(((OW c l ∗ Rg c r (n + 1) ∗ canAll (dst r c) r (n + 3)) -∗ Q ⟨⟩) -∗ runs c (semWaitWord (creditS r).sem 1#32) Q) := by
  have hpayeq : ∀ S : Finset ℕ, bigSep S (fun d => (Rd m).payload ((c : Thread nD τ), (Kd.cred r).sem) 0 d) = bigSep S (fun k => (canAll (dst r c) r (k + 3) : sProp 𝕄)) :=
    fun S => congrArg _ (funext fun d => Rd_payload m c (.cred r) 0 d)
  unfold semWaitWord
  rw [show Rg c r n = iprop(∃ T : Finset ℕ, ⌜T ⊆ Finset.range 13 ∧ n ≤ T.card⌝ ∗ atPos ER (kcell c (.cred r)) 0 T n
      ∗ bigSep T (fun k => canAll (dst r c) r (k + 3)) : sProp 𝕄) from if_pos (by omega)]
  unfold OW
  iintro ⟨#HR, Hc, ⟨%W, HO⟩, ⟨%T, %hT, Hat, #HT⟩⟩ Hk
  have hmw : Recs m κ ιs ⊢ MayWait (c : Thread nD τ) (Kd.cred r).sem (2 * n + 3) (owedL c l) :=
    BI.Entails.trans (Recs_levs (m := m) (κ := κ) (ιs := ιs)) (may_wait c _ (2 * n + 3) (by omega) l hl)
  by_cases h12 : n = 12
  · subst h12
    iapply (Rounds.wp_wait_rest_token 𝒱₀ ER (Rd m) (c : Thread nD τ) none (κ := κ (kcell c (.cred r))) (sm := (Kd.cred r).sem) (k' := 1)
      (wpE_semWait_eq 𝒱₀ (c : Thread nD τ) none Set.univ) (Set.mem_univ _) (2 * 12 + 3) (O := owedL c l) (W := W) (R := 0) (m := 12) (T := T)
      (Rd_expect m c (.cred r) 0).symm) $$ [Hc HO Hat]
    · isplitr; · iapply (Recs_cell (ιs := ιs) c (.cred r)); iexact HR
      isplitl [Hc]; · iexact Hc
      isplitl [HO]; · iexact HO
      isplitr; · iapply hmw; iexact HR
      iexact Hat
    iintro ⟨HO, Hat, -, Hp⟩
    ihave #Hp' := (Entails.of_eq (hpayeq _)) $$ Hp
    rw [wp_ret]; imodintro
    iapply Hk
    isplitl [HO]; · iexists _; iexact HO
    isplitl [Hat]; · iapply (Entails.of_eq (show atPos ER ((c : Thread nD τ), (Kd.cred r).sem) (0 + 1) ∅ 0 = (Rg c r (12 + 1) : sProp 𝕄) from (if_neg (by omega)).symm)); iexact Hat
    by_cases hm : 12 ∈ T
    · iapply (all_elim (fun k => (canAll (dst r c) r (k + 3) : sProp 𝕄)) hm); iexact HT
    · have hm' : 12 ∈ (Rd m).duties ((c : Thread nD τ), (Kd.cred r).sem) 0 \ T := by
        rw [show ((c : Thread nD τ), (Kd.cred r).sem) = kcell c (.cred r) from rfl, Rd_duties]; exact Finset.mem_sdiff.mpr ⟨Finset.mem_range.mpr (by omega), hm⟩
      iapply (all_elim (fun k => (canAll (dst r c) r (k + 3) : sProp 𝕄)) hm')
      iexact Hp'
  · iapply (Rounds.wp_wait 𝒱₀ ER (Rd m) (c : Thread nD τ) none (κ := κ (kcell c (.cred r))) (sm := (Kd.cred r).sem) (k' := 1)
      (wpE_semWait_eq 𝒱₀ (c : Thread nD τ) none Set.univ) (Set.mem_univ _) (cr := Finsupp.single (2 * n + 3) 1) (O := owedL c l) (W := W)
      {((Kd.cred r).sem, 2 * n + 3)} (R := 0) (m := n) (T := T) (by rw [Util.total_single]) (image_single_subset _ _ 1)) $$ [Hc HO Hat]
    · isplitr; · iapply (Recs_cell (ιs := ιs) c (.cred r)); iexact HR
      isplitl [Hc]; · iexact Hc
      isplitl [HO]; · iexact HO
      isplitr; · iapply hmw; iexact HR
      iexact Hat
    iintro %S ⟨%hS, HO, Hat, Hp⟩
    ihave #Hp' := (Entails.of_eq (hpayeq _)) $$ Hp
    obtain ⟨hTS, hSd, hSc⟩ := hS
    have hSd : S ⊆ Finset.range 13 := by have h := hSd; rwa [show ((c : Thread nD τ), (Kd.cred r).sem) = kcell c (.cred r) from rfl, Rd_duties] at h
    have hSc : n + 1 ≤ S.card := by
      have h := hSc
      rw [show ((c : Thread nD τ), (Kd.cred r).sem) = kcell c (.cred r) from rfl, Rd_duties, Rd_expect, show duties (.cred r) 0 = Finset.range 13 from rfl,
        Finset.card_sdiff_of_subset hSd] at h
      rw [Finset.card_range, show amount (.cred r) = 1 from rfl] at h
      have := Finset.card_le_card hSd
      rw [Finset.card_range] at this
      omega
    obtain ⟨k, hkS, hkn⟩ : ∃ k ∈ S, n ≤ k := by
      by_contra hcon
      push Not at hcon
      have := Finset.card_le_card (show S ⊆ Finset.range n from fun k hk => Finset.mem_range.mpr (hcon k hk))
      rw [Finset.card_range] at this; omega
    have hall : iprop(bigSep T (fun k => (canAll (dst r c) r (k + 3) : sProp 𝕄)) ∗ bigSep (S \ T) (fun k => (canAll (dst r c) r (k + 3) : sProp 𝕄)))
        ⊢ bigSep S (fun k => (canAll (dst r c) r (k + 3) : sProp 𝕄)) := by
      conv => rhs; rw [← Finset.union_sdiff_of_subset hTS]
      exact Entails.of_eq (bigSep_union Finset.disjoint_sdiff).symm
    ihave #HS := hall $$ []
    · isplitr; · iexact HT
      iexact Hp'
    rw [wp_ret]; imodintro
    iapply Hk
    isplitl [HO]; · iexists _; iexact HO
    isplitl [Hat]
    · rw [show Rg c r (n + 1) = iprop(∃ T : Finset ℕ, ⌜T ⊆ Finset.range 13 ∧ n + 1 ≤ T.card⌝ ∗ atPos ER (kcell c (.cred r)) 0 T (n + 1)
          ∗ bigSep T (fun k => canAll (dst r c) r (k + 3)) : sProp 𝕄) from if_pos (by omega)]
      iexists S
      isplitr; · ipureintro; exact ⟨hSd, hSc⟩
      isplitl [Hat]; · iexact Hat
      iexact HS
    iapply (can_mono (dst r c) r (Nat.add_le_add_right hkn 3))
    iapply (all_elim (fun k => (canAll (dst r c) r (k + 3) : sProp 𝕄)) hkS); iexact HS

/-! ## The barrier -/

/-- The signal to a neighbour at the barrier. -/
theorem barSignal_op (c : Dev nD) (r : Bool) (l : List Pay) (Q : PUnit → sProp 𝕄) :
    iprop(Recs m κ ιs ∗ OW c (.bar r :: l) ∗ Pay.supply c (.bar r) ∗ canAll c (!r) 2)
      ⊢ iprop((OW c l -∗ Q ⟨⟩) -∗ runs c (semSignalWord (dst r c) barrierS.sem 1#32) Q) := by
  have hd : (if r then 0 else 1) ∈ (Rd m).duties (kcell (dst r c) .bar) 0 := by rw [Rd_duties]; cases r <;> decide
  have hp : canAll c (!r) 2 ⊢ (Rd m).payload (kcell (dst r c) .bar) 0 (if r then 0 else 1) := by
    rw [Rd_payload]
    show _ ⊢ canAll (dst (decide ((if r then 0 else 1) = 1)) (dst r c)) (decide ((if r then 0 else 1) = 1)) 2
    have e : decide ((if r then 0 else 1) = 1) = !r := by cases r <;> rfl
    rw [e, dst_dst']
  unfold OW Pay.supply semSignalWord
  iintro ⟨#HR, ⟨%W, HO⟩, Ht, #Hcan⟩ Hk
  iapply (Rounds.wp_signal 𝒱₀ ER (Rd m) (c : Thread nD τ) none (dst := (dst r c : Thread nD τ)) (κ := κ (kcell (dst r c) .bar))
      (r := 0) (d := if r then 0 else 1) hd (Rd_amount m (dst r c) .bar 0 _) 1 (owedL c l) rfl) $$ [HO Ht]
  · isplitr; · iapply (Recs_cell (ιs := ιs) (dst r c) .bar); iexact HR
    isplitl [HO]; · iexact HO
    isplitl [Ht]; · iexact Ht
    isplitr; · iapply (show canAll c (!r) 2 ⊢ (Rd m).payload ((dst r c : Thread nD τ), SemLoc.reg barrierS.sem) 0 (if r then 0 else 1) from hp); iexact Hcan
    iapply (Recs_reached (ιs := ιs) (dst r c) .bar); iexact HR
  iintro HO
  rw [wp_ret]; imodintro
  iapply Hk; iexists W; iexact HO

/-- The wait for both neighbours. -/
theorem barWait_op (c : Dev nD) (l : List Pay) (hl : ∀ x ∈ l, 1 < x.level ∧ x.level < 40) (Q : PUnit → sProp 𝕄) :
    iprop(Recs m κ ιs ∗ cred (tallyAt (kcell c .bar) 1 2) ∗ OW c l ∗ atPos ER (kcell c .bar) 0 ∅ 0)
      ⊢ iprop(((OW c l ∗ atPos ER (kcell c .bar) 1 ∅ 0 ∗ canAll (dst false c) false 2 ∗ canAll (dst true c) true 2) -∗ Q ⟨⟩)
          -∗ runs c (semWaitWord barrierS.sem 2#32) Q) := by
  have e0 : bigSep (duties .bar 0) (payload m c .bar 0) ⊢ iprop(canAll (dst false c) false 2 ∗ canAll (dst true c) true 2) := by
    rw [show duties .bar 0 = insert 0 {1} from rfl, bigSep_insert (by decide), bigSep_singleton]
    exact BI.Entails.refl _
  iintro H Hk
  iapply (wait_round (m := m) (κ := κ) (ιs := ιs) c .bar 0 2 1 _ (fun K => wpE_semWait_eq 𝒱₀ (c : Thread nD τ) none Set.univ K) rfl (by omega) l hl Q) $$ H
  iintro ⟨HO, Hat, -, Hp⟩
  iapply Hk
  isplitl [HO]; · iexact HO
  isplitl [Hat]; · iexact Hat
  iapply e0; iexact Hp

end Cert.KernelIdeal.Rings

end
-- ==== Proof.Moves.lean ====
/-
  The kernel's loads and stores, each as one rule, and the release of a slot that was read.
-/
module

public import proofs.«01_k».proof.Proof.Ops

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (κ : GSem nD τ sig → ℕ) (ιs : SK → ℕ)

/-- A device's block of `x`, staged; -/
def xH (c : Dev nD) : sProp 𝕄 := ((c : Thread nD τ).loc cc0_stg0_0 ↦{fullShare} xAt m c)
/-- of the weights; -/
def wH (c : Dev nD) : sProp 𝕄 := ((c : Thread nD τ).loc cc0_stg1_0 ↦{fullShare} wAt m c)
/-- the buffer of its result. -/
def oH (c : Dev nD) (f : (cc0_stg2_0 : Ref sig .tc).ty.Contents (Elt F)) : sProp 𝕄 := ((c : Thread nD τ).loc cc0_stg2_0 ↦{fullShare} f)

/-- One program, then another. -/
theorem runs_bind (c : Dev nD) {α β : Type} (p : P F α) (f : α → P F β) (Q : β → sProp 𝕄) :
    runs c (p >>= f) Q = runs c p (fun x => runs c (f x) Q) := wp_bind ..
theorem runs_pure (c : Dev nD) {α : Type} (a : α) (Q : α → sProp 𝕄) : Q a ⊢ runs c (pure a) Q := by
  show Q a ⊢ wp frame (wpE (defs₀ (F := F)) 𝒱₀ (c : Thread nD τ) none) Set.univ (Prog.ret a) Q
  rw [wp_ret]; iintro H; imodintro; iexact H

variable {m κ ιs}

theorem loadX_op (c : Dev nD) (off : Fin 2 → Nat) (hoff : ∀ a, off a + S256x256.size a ≤ S4096x256.size a) (Q : Vec F S256x256 .f32 → sProp 𝕄) :
    xH m c ⊢ iprop((xH m c -∗ Q (xM.view.readAt (Elt F) (Rect.unit (s := S4096x256) off S256x256.size hoff).toLoadRect (xAt m c)))
      -∗ runs c (loadX off hoff) Q) := by
  unfold xH loadX Prog.lift
  iintro H Hk
  iapply (wp_load 𝒱₀ (c : Thread nD τ) none Set.univ (m := xM) (Finset.subset_univ _)) $$ H
  iintro H
  rw [wp_ret]; imodintro
  iapply Hk; iexact H
theorem loadW_op (c : Dev nD) (r : Bool) (j : Fin 4) (Q : Vec F S256x1024 .f32 → sProp 𝕄) :
    wH m c ⊢ iprop((wH m c -∗ Q (wM.view.readAt (Elt F) (colR r j).toLoadRect (wAt m c))) -∗ runs c (loadW r j) Q) := by
  unfold wH loadW Prog.lift
  iintro H Hk
  iapply (wp_load 𝒱₀ (c : Thread nD τ) none Set.univ (m := wM) (Finset.subset_univ _)) $$ H
  iintro H
  rw [wp_ret]; imodintro
  iapply Hk; iexact H
theorem loadOut_op (c : Dev nD) (r : Bool) (j : Fin 4) (f : (cc0_stg2_0 : Ref sig .tc).ty.Contents (Elt F)) (Q : Vec F S256x1024 .f32 → sProp 𝕄) :
    oH c f ⊢ iprop((∀ a, oH c f -∗ Q a) -∗ runs c (loadOut r j) Q) := by
  unfold oH loadOut Prog.lift
  iintro H Hk
  iapply (wp_load 𝒱₀ (c : Thread nD τ) none Set.univ (m := oM) (Finset.subset_univ _)) $$ H
  iintro H
  rw [wp_ret]; imodintro
  iapply Hk; iexact H
theorem storeOut_op (c : Dev nD) (r : Bool) (j : Fin 4) (f : (cc0_stg2_0 : Ref sig .tc).ty.Contents (Elt F)) (v : FVec F S256x1024 .f32) (Q : PUnit → sProp 𝕄) :
    oH c f ⊢ iprop((oH c ((oM.access (colR r j)).write (Elt F) f v Finset.univ) -∗ Q ⟨⟩) -∗ runs c (storeOut r j v) Q) := by
  unfold oH storeOut Prog.lift
  iintro H Hk
  iapply (wp_store 𝒱₀ (c : Thread nD τ) none Set.univ (m := oM) (r := colR r j) (Mk := Finset.univ) (Finset.subset_univ _)) $$ H
  iintro H
  rw [wp_ret]; imodintro
  iapply Hk; iexact H

theorem loadPiece_any (c : Dev nD) (b : Memref sig .tc .vmem S2x256x4096 .f32) (s : Fin 2) (j : Fin 4)
    (f : Buf (Elt F) ((pieceM b s j).view.loc (c : Thread nD τ))) (Q : Vec F S1x256x1024 .f32 → sProp 𝕄) :
    ((pieceM b s j).view.loc (c : Thread nD τ) ↦[(pieceM b s j).view.set]{fullShare} f : sProp 𝕄)
      ⊢ iprop((((pieceM b s j).view.loc (c : Thread nD τ) ↦[(pieceM b s j).view.set]{fullShare} f : sProp 𝕄)
          -∗ Q (b.view.readAt (Elt F) (slotR s j).toLoadRect f)) -∗ runs c (loadPiece b s j) Q) := by
  unfold loadPiece Prog.lift
  iintro H Hk
  ihave H := (show ((pieceM b s j).view.loc (c : Thread nD τ) ↦[(pieceM b s j).view.set]{fullShare} f : sProp 𝕄)
    ⊢ ((b.access (slotR s j)).loc (c : Thread nD τ) ↦[(pieceM b s j).view.set]{fullShare} f) from BI.Entails.refl _) $$ H
  iapply (wp_load_rect 𝒱₀ (c : Thread nD τ) none Set.univ (m := b) (r := slotR s j) (S := (pieceM b s j).view.set) (q := fullShare) (f := f)
    (by rw [set_piece])) $$ H
  iintro H
  rw [wp_ret]; imodintro
  rw [show (b.access (slotR s j)).read (Elt F) f = b.view.readAt (Elt F) (slotR s j).toLoadRect f from rfl]
  iapply Hk; iexact H

/-- A load of a piece whose contents do not matter. -/
theorem loadSlot_op (c : Dev nD) (r : Bool) (s : Fin 2) (j : Fin 4) (Q : Vec F S1x256x1024 .f32 → sProp 𝕄) :
    sendSlot c r s j ⊢ iprop((∀ a, sendSlot c r s j -∗ Q a) -∗ runs c (loadPiece (sendB r) s j) Q) := by
  unfold sendSlot slot
  iintro ⟨%f, H⟩ Hk
  iapply (loadPiece_any c (sendB r) s j f Q) $$ H
  iintro H
  iapply Hk; iexists f; iexact H

/-- A load of a piece that arrived. -/
theorem loadGot_op (c : Dev nD) (r : Bool) (j : Fin 4) (h : ℕ) (Q : Vec F S1x256x1024 .f32 → sProp 𝕄) :
    gotPiece m c r j h ⊢ iprop((∀ a, ⌜shapeCast S256x1024 a shapeCasts_S1x256x1024_S256x1024 = gotV m c r j h⌝ -∗ recvSlot c r (par h) j -∗ Q a)
      -∗ runs c (loadPiece (recvB r) (par h) j) Q) := by
  unfold gotPiece owns recvSlot slot
  iintro ⟨%f, %hf, H⟩ Hk
  iapply (loadPiece_any c (recvB r) (par h) j f Q) $$ H
  iintro H
  iapply Hk
  · ipureintro; exact (read_piece _ _ _ f).trans hf
  iexists f; iexact H

/-- A store of a block in a piece. -/
theorem storePiece_op (c : Dev nD) (r : Bool) (s : Fin 2) (j : Fin 4) (v : FVec F S256x1024 .f32) (Q : PUnit → sProp 𝕄) :
    sendSlot c r s j ⊢ iprop((owns (c : Thread nD τ) (pieceM (sendB r) s j) fullShare v -∗ Q ⟨⟩)
      -∗ runs c (storePiece (sendB r) s j (shapeCast S1x256x1024 v shapeCasts_S256x1024_S1x256x1024)) Q) := by
  unfold sendSlot slot storePiece Prog.lift owns
  iintro ⟨%f, H⟩ Hk
  ihave H := (show ((pieceM (sendB r) s j).view.loc (c : Thread nD τ) ↦[(pieceM (sendB r) s j).view.set]{fullShare} f : sProp 𝕄)
    ⊢ (((sendB r).access (slotR s j)).loc (c : Thread nD τ) ↦[(pieceM (sendB r) s j).view.set]{fullShare} f) from BI.Entails.refl _) $$ H
  iapply (wp_store 𝒱₀ (c : Thread nD τ) none Set.univ (m := sendB r) (r := slotR s j) (Mk := Finset.univ) (S := (pieceM (sendB r) s j).view.set) (f := f)
    (by rw [set_piece, View.setOn_univ])) $$ H
  iintro H
  rw [wp_ret]; imodintro
  iapply Hk
  iexists _
  isplitr
  · ipureintro; exact read_stored (sendB r) s j f v
  iexact H

/-! ## Releasing a slot -/

theorem piece_nonempty (b : Memref sig .tc .vmem S2x256x4096 .f32) (s : Fin 2) (j : Fin 4) : (pieceM b s j).view.set.Nonempty :=
  View.set_nonempty (by decide)

/-- The device that reads a slot releases it for the slot's next send. -/
theorem release_op (c : Dev nD) (r : Bool) (j : Fin 4) (h n : ℕ) (hn : n = h / 2) :
    iprop(Recs m κ ιs ∗ readerAt ES (c, r, par h, j) n ∗ recvSlot c r (par h) j ∗ reached ER (kcell c (.recv r (par h) j)) n)
      ⊢ (|={Set.univ}=> (readerAt ES (c, r, par h, j) (n + 1) ∗ can c r h j) : sProp 𝕄) := by
  subst hn
  iintro ⟨#HR, Hr, Hs, #Hc⟩
  imod (slot_release ES (k := (c, r, par h, j)) (S := slotAt (c, r, par h, j)) (Set.mem_univ (ιs (c, r, par h, j)))
    (slot_slot_false (piece_nonempty (recvB r) (par h) j)) (h / 2)) $$ [Hr Hs] with ⟨Hr, #Hrel⟩
  · isplitr; · iapply (Recs_slot (m := m) (κ := κ)); iexact HR
    isplitl [Hr]; · iexact Hr
    iapply (show recvSlot (F := F) c r (par h) j ⊢ slotAt (c, r, par h, j) from BI.Entails.refl _); iexact Hs
  imodintro
  isplitl [Hr]; · iexact Hr
  unfold can
  isplitr; · iexact Hrel
  iexact Hc

end Cert.KernelIdeal.Rings

end
-- ==== Proof.State.lean ====
/-
  What a device holds of a sub-column between two steps, and the parts of a hop.
-/
module

public import proofs.«01_k».proof.Proof.Moves

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (κ : GSem nD τ sig → ℕ) (ιs : SK → ℕ)

/-! ## What a device holds of a sub-column between two steps -/

/-- It may send `h` next. -/
def Free (c : Dev nD) (k : Bool × Fin 4) (h : ℕ) : sProp 𝕄 :=
  iprop(atPos ER (kcell c (.send k.1 (par h) k.2)) (h / 2) ∅ 0 ∗ reached ER (kcell c (.send k.1 (par h) k.2)) (h / 2) ∗ sendSlot c k.1 (par h) k.2)
/-- Send `h` is under way. -/
def Out (c : Dev nD) (k : Bool × Fin 4) (h : ℕ) : sProp 𝕄 :=
  iprop(atPos ER (kcell c (.send k.1 (par h) k.2)) (h / 2) ∅ 0 ∗ cred (tallyAt (kcell c (.send k.1 (par h) k.2)) 0 N))
/-- Before hop `h`, the send before the last one. -/
def Sent (c : Dev nD) (k : Bool × Fin 4) (h : ℕ) : sProp 𝕄 := if h = 0 then Free c k 1 else Out c k (h - 1)
/-- Arrival `h` is awaited, its slot released. -/
def In (c : Dev nD) (k : Bool × Fin 4) (h : ℕ) : sProp 𝕄 :=
  iprop(atPos ER (kcell c (.recv k.1 (par h) k.2)) (h / 2) ∅ 0 ∗ readerAt ES (c, k.1, par h, k.2) (h / 2 + 1))
/-- Arrival `h` was read and is the last on its slot. -/
def Done (c : Dev nD) (k : Bool × Fin 4) (h : ℕ) : sProp 𝕄 :=
  iprop(atPos ER (kcell c (.recv k.1 (par h) k.2)) (h / 2 + 1) ∅ 0 ∗ recvSlot c k.1 (par h) k.2)
/-- The slot of arrival `h`, if there is one, and otherwise that of the arrival before it on the slot. -/
def InK (c : Dev nD) (k : Bool × Fin 4) (h : ℕ) : sProp 𝕄 := if h ≤ 14 then In c k h else Done c k (h - 2)
/-- The first sub-column of a ring keeps the ring's credits. -/
def RgK (c : Dev nD) (k : Bool × Fin 4) (h : ℕ) : sProp 𝕄 := if k.2 = 0 then Rg c k.1 (h - 1) else iprop(emp)
/-- Before hop `h`. -/
def Key (c : Dev nD) (k : Bool × Fin 4) (h : ℕ) : sProp 𝕄 :=
  iprop(Sent c k h ∗ Out c k h ∗ InK c k h ∗ InK c k (h + 1) ∗ canK c k.1 k.2 (min (h + 2) 15) ∗ RgK c k h ∗ canAll (dst k.1 c) k.1 (max (h + 1) 2))
/-- Before the seed. -/
def Seed (c : Dev nD) (k : Bool × Fin 4) : sProp 𝕄 :=
  iprop(Free c k 0 ∗ Free c k 1 ∗ In c k 0 ∗ In c k 1 ∗ canK c k.1 k.2 2 ∗ RgK c k 0 ∗ canAll (dst k.1 c) k.1 2)
/-- After the last hop. -/
def Fin2 (c : Dev nD) (k : Bool × Fin 4) : sProp 𝕄 := iprop(Out c k 13 ∗ Out c k 14 ∗ Done c k 13 ∗ Done c k 14 ∗ RgK c k 14)
/-- At the end. -/
def End (c : Dev nD) (k : Bool × Fin 4) : sProp 𝕄 := iprop(Free c k 15 ∗ Free c k 16 ∗ Done c k 13 ∗ Done c k 14 ∗ RgK c k 14)

variable {m κ ιs}

/-! ## The parts of a hop -/

theorem canK_succ (c : Dev nD) (r : Bool) (j : Fin 4) (n : ℕ) : canK (F := F) c r j (n + 1) = iprop(canK c r j n ∗ can c r n j) := by
  unfold canK; rw [List.range_succ, sepL_append, sepL_single]

/-- From hop 1 on, the send of two hops ago has to have left. -/
theorem sentPart (c : Dev nD) (k : Bool × Fin 4) {h : ℕ} (hh : h ≤ 13) (l : List Pay) (hl : ∀ x ∈ l, 0 < x.level ∧ x.level < 40) (Q : PUnit → sProp 𝕄) :
    iprop(Recs m κ ιs ∗ Sent c k h ∗ OW c l)
      ⊢ iprop(((Free c k (h + 1) ∗ OW c l) -∗ Q ⟨⟩) -∗ runs c (if 1 ≤ h then waitSent k.1 (par (h + 1)) k.2 else pure ⟨⟩) Q) := by
  obtain ⟨r, j⟩ := k
  cases h with
  | zero =>
    rw [if_neg (by omega)]
    unfold Sent
    rw [if_pos rfl]
    iintro ⟨#HR, Hs, HO⟩ Hk
    iapply (runs_pure c PUnit.unit Q)
    iapply Hk
    isplitl [Hs]; · iexact Hs
    iexact HO
  | succ n =>
    rw [if_pos (by omega)]
    unfold Sent Out
    rw [if_neg (by omega), show n + 1 - 1 = n from rfl, show n + 1 + 1 = n + 2 from rfl, par_add]
    iintro ⟨#HR, ⟨Hat, Hc⟩, HO⟩ Hk
    iapply (waitSent_op (m := m) (κ := κ) (ιs := ιs) c r j (h := n) (by omega) l hl Q) $$ [Hat Hc HO]
    · isplitr; · iexact HR
      isplitl [Hc]; · iexact Hc
      isplitl [HO]; · iexact HO
      iexact Hat
    iintro ⟨HO, Hat, #Hr, Hs⟩
    iapply Hk
    isplitr [HO]
    · unfold Free
      rw [par_add, show (n + 2) / 2 = n / 2 + 1 by omega]
      isplitl [Hat]; · iexact Hat
      isplitr; · iexact Hr
      iexact Hs
    iexact HO

/-- The last sub-column of a ring returns the hop's credit. -/
theorem creditPart (c : Dev nD) (k : Bool × Fin 4) {h : ℕ} (Z : sProp 𝕄) [BI.Persistent Z]
    (hZ : k.2.val = 3 ∧ h ≤ 12 → (Z ⊢ canAll c k.1 (h + 3))) (l : List Pay) (Q : PUnit → sProp 𝕄) :
    iprop(Recs m κ ιs ∗ OW c ((if k.2.val = 3 ∧ h ≤ 12 then [.cred k.1 h] else []) ++ l)
        ∗ sepL (Pay.supply c) (if k.2.val = 3 ∧ h ≤ 12 then [.cred k.1 h] else []) ∗ Z)
      ⊢ iprop((OW c l -∗ Q ⟨⟩) -∗ runs c (if k.2.val = 3 ∧ h ≤ 12 then semSignalWord (dst (!k.1) c) (creditS k.1).sem 1#32 else pure ⟨⟩) Q) := by
  by_cases hc : k.2.val = 3 ∧ h ≤ 12
  · rw [if_pos hc, if_pos hc, sepL_single, List.singleton_append]
    iintro ⟨#HR, HO, Hs, #HZ⟩ Hk
    iapply (creditSignal_op (m := m) (κ := κ) (ιs := ιs) c k.1 (k := h) (by omega) l Q) $$ [HO Hs]
    · isplitr; · iexact HR
      isplitl [HO]; · iexact HO
      isplitl [Hs]; · iexact Hs
      iapply (hZ hc); iexact HZ
    iexact Hk
  · rw [if_neg hc, if_neg hc, List.nil_append]
    iintro ⟨#HR, HO, Hs, #HZ⟩ Hk
    iapply (runs_pure c PUnit.unit Q)
    iapply Hk; iexact HO

/-- What send `h + 1` of a sub-column needs to know of its target: the first sub-column learns it from the ring's credits,
    the others from the first. -/
def Tgt (c : Dev nD) (k : Bool × Fin 4) (h : ℕ) : sProp 𝕄 := if k.2.val = 0 then iprop(emp) else canAll (dst k.1 c) k.1 (h + 2)
instance Tgt_persistent (c : Dev nD) (k : Bool × Fin 4) (h : ℕ) : BI.Persistent (Tgt (F := F) c k h) := by
  unfold Tgt; split <;> infer_instance

/-- The first sub-column of a ring waits for the credit of the hop before. -/
theorem waitPart (c : Dev nD) (k : Bool × Fin 4) {h : ℕ} (hh : h ≤ 13) (l : List Pay) (hl : ∀ x ∈ l, 2 * h + 2 < x.level ∧ x.level < 40) (Q : PUnit → sProp 𝕄) :
    iprop(Recs m κ ιs ∗ OW c l ∗ sepL (fun x => cred (Pay.due c x)) (if k.2.val = 0 ∧ 1 ≤ h then [.cred k.1 (h - 1)] else [])
        ∗ RgK c k h ∗ canAll (dst k.1 c) k.1 (max (h + 1) 2) ∗ Tgt c k h)
      ⊢ iprop(((OW c l ∗ RgK c k (h + 1) ∗ canAll (dst k.1 c) k.1 (h + 2)) -∗ Q ⟨⟩)
        -∗ runs c (if k.2.val = 0 ∧ 1 ≤ h then semWaitWord (creditS k.1).sem 1#32 else pure ⟨⟩) Q) := by
  obtain ⟨r, j⟩ := k
  by_cases hj : j.val = 0
  · cases h with
    | zero =>
      rw [if_neg (by omega), if_neg (by omega)]
      unfold RgK
      iintro ⟨#HR, HO, -, Hg, #Hc, -⟩ Hk
      iapply (runs_pure c PUnit.unit Q)
      iapply Hk
      isplitl [HO]; · iexact HO
      isplitl [Hg]; · iexact Hg
      iexact Hc
    | succ n =>
      have hj0 : j = 0 := Fin.ext hj
      subst hj0
      unfold RgK
      have hc : (r, (0 : Fin 4)).2.val = 0 ∧ 1 ≤ n + 1 := ⟨rfl, by omega⟩
      have h0 : (r, (0 : Fin 4)).2 = 0 := rfl
      rw [if_pos hc, if_pos hc, if_pos h0, if_pos h0, sepL_single, show n + 1 - 1 = n from rfl, show n + 1 + 1 - 1 = n + 1 from rfl]
      iintro ⟨#HR, HO, Hd, Hg, -, -⟩ Hk
      iapply (creditWait_op (m := m) (κ := κ) (ιs := ιs) c r (n := n) (by omega) l (fun x hx => ⟨by have := (hl x hx).1; omega, (hl x hx).2⟩) Q) $$ [HO Hd Hg]
      · isplitr; · iexact HR
        isplitl [Hd]; · iexact Hd
        isplitl [HO]; · iexact HO
        iexact Hg
      iexact Hk
  · rw [if_neg (fun h => hj h.1), if_neg (fun h => hj h.1)]
    unfold RgK Tgt
    rw [if_neg hj]
    have hj' : ¬ j = 0 := fun e => hj (congrArg Fin.val e)
    rw [if_neg hj', if_neg hj']
    iintro ⟨#HR, HO, -, Hg, -, #Hc⟩ Hk
    iapply (runs_pure c PUnit.unit Q)
    iapply Hk
    isplitl [HO]; · iexact HO
    isplitl [Hg]; · iexact Hg
    iexact Hc

/-- After the piece of arrival `h` is read its slot is released, if there is another send on it. -/
theorem releasePart (c : Dev nD) (k : Bool × Fin 4) {h : ℕ} (hh : h ≤ 13) :
    iprop(Recs m κ ιs ∗ atPos ER (kcell c (.recv k.1 (par h) k.2)) (h / 2 + 1) ∅ 0 ∗ reached ER (kcell c (.recv k.1 (par h) k.2)) (h / 2 + 1)
        ∗ readerAt ES (c, k.1, par h, k.2) (h / 2 + 1) ∗ recvSlot c k.1 (par h) k.2 ∗ canK c k.1 k.2 (min (h + 2) 15))
      ⊢ (|={Set.univ}=> (InK c k (h + 2) ∗ canK c k.1 k.2 (min (h + 3) 15)) : sProp 𝕄) := by
  obtain ⟨r, j⟩ := k
  unfold InK
  by_cases h12 : h ≤ 12
  · rw [if_pos (by omega), min_eq_left (by omega), min_eq_left (by omega), canK_succ c _ _ (h + 2)]
    iintro ⟨#HR, Hat, #Hre, Hr, Hs, #Hc⟩
    have hrel := release_op (m := m) (κ := κ) (ιs := ιs) c r j (h + 2) (h / 2 + 1) (by omega)
    rw [par_add] at hrel
    imod hrel $$ [Hr Hs] with ⟨Hr, #Hn⟩
    · isplitr; · iexact HR
      isplitl [Hr]; · iexact Hr
      isplitl [Hs]; · iexact Hs
      iexact Hre
    imodintro
    isplitl [Hat Hr]
    · unfold In
      rw [par_add, show (h + 2) / 2 = h / 2 + 1 by omega]
      isplitl [Hat]; · iexact Hat
      iexact Hr
    isplitr; · iexact Hc
    iexact Hn
  · obtain rfl : h = 13 := by omega
    rw [if_neg (by omega)]
    iintro ⟨#HR, Hat, #Hre, Hr, Hs, #Hc⟩
    imodintro
    isplitl [Hat Hs]
    · unfold Done
      isplitl [Hat]; · iexact Hat
      iexact Hs
    iexact Hc

end Cert.KernelIdeal.Rings

end
-- ==== Proof.Steps.lean ====
/-
  The steps of the kernel, each as one rule: a seed, a hop, the last hop, the drain.
-/
module

public import proofs.«01_k».proof.Proof.State

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (κ : GSem nD τ sig → ℕ) (ιs : SK → ℕ)

variable {m κ ιs}

theorem mem_four : ∀ j : Fin 4, j ∈ [0, 1, 2, 3] := by decide

/-! ## The seed -/

/-- The seed of a sub-column. -/
theorem seed_op (c : Dev nD) (k : Bool × Fin 4) (l : List Pay) (Q : PUnit → sProp 𝕄) :
    iprop(Recs m κ ιs ∗ xH m c ∗ wH m c ∗ Seed c k ∗ OW c (.send k.1 k.2 0 :: l) ∗ Pay.supply c (.send k.1 k.2 0))
      ⊢ iprop(((xH m c ∗ wH m c ∗ Key c k 0 ∗ OW c l) -∗ Q ⟨⟩) -∗ runs c (seedStep c k) Q) := by
  obtain ⟨r, j⟩ := k
  unfold seedStep Seed Free
  have e0 : (0 : Fin 2) = par 0 := rfl
  simp only [e0]
  simp only [runs_bind]
  iintro ⟨#HR, Hx, Hw, ⟨⟨Hat, #Hre, Hs⟩, ⟨Hat1, #Hre1, Hs1⟩, Hi0, Hi1, #Hc, Hg, #Ht⟩, HO, Hsu⟩ Hk
  iapply (loadX_op c (seedOff r c) (seedOff_inb r c)) $$ Hx
  iintro Hx
  iapply (loadW_op c r j) $$ Hw
  iintro Hw
  iapply (loadSlot_op c r (par 0) j) $$ Hs
  iintro %a Hs
  iapply (storePiece_op c r (par 0) j (prod (castX (xM.view.readAt (Elt F) (Rect.unit (s := S4096x256) (seedOff r c) S256x256.size (seedOff_inb r c)).toLoadRect (xAt m c)))
    (castW (wM.view.readAt (Elt F) (colR r j).toLoadRect (wAt m c))))) $$ Hs
  iintro Hs
  have hcan : canAll (F := F) (dst r c) r 2 ⊢ can (dst r c) r 0 j := by
    unfold canAll canK
    exact BI.Entails.trans (sepL_elim (a := j) (mem_four j)) (sepL_elim (a := 0) (by decide))
  iapply (startSend_op (m := m) (κ := κ) (ιs := ιs) c r j (h := 0) (by omega) l Q) $$ [Hs HO Hsu]
  · isplitr; · iexact HR
    isplitl [Hs]; · iexact Hs
    isplitl [HO]; · iexact HO
    isplitl [Hsu]; · iexact Hsu
    isplitr; · iapply hcan; iexact Ht
    iexact Hre
  iintro ⟨Hcr, HO⟩
  iapply Hk
  isplitl [Hx]; · iexact Hx
  isplitl [Hw]; · iexact Hw
  isplitr [HO]
  · unfold Key
    isplitl [Hat1 Hs1]
    · unfold Sent Free; rw [if_pos rfl]
      isplitl [Hat1]; · iexact Hat1
      isplitr; · iexact Hre1
      iexact Hs1
    isplitl [Hat Hcr]
    · unfold Out
      isplitl [Hat]; · iexact Hat
      iexact Hcr
    isplitl [Hi0]
    · unfold InK; rw [if_pos (by omega)]; iexact Hi0
    isplitl [Hi1]
    · unfold InK; rw [if_pos (by omega)]; iexact Hi1
    isplitr; · iexact Hc
    isplitl [Hg]; · iexact Hg
    iexact Ht
  iexact HO

/-! ## A hop -/

/-- What the last sub-column of a ring needs to know of the others for the credit it returns. -/
def Oth (c : Dev nD) (k : Bool × Fin 4) (h : ℕ) : sProp 𝕄 :=
  if k.2.val = 3 ∧ h ≤ 12 then iprop(canK c k.1 0 (h + 3) ∗ canK c k.1 1 (h + 3) ∗ canK c k.1 2 (h + 3)) else iprop(emp)
instance Oth_persistent (c : Dev nD) (k : Bool × Fin 4) (h : ℕ) : BI.Persistent (Oth (F := F) c k h) := by
  unfold Oth; split <;> infer_instance

theorem all_can (c : Dev nD) (k : Bool × Fin 4) {h : ℕ} (hc : k.2.val = 3 ∧ h ≤ 12) :
    iprop(Oth c k h ∗ canK c k.1 k.2 (min (h + 3) 15)) ⊢ (canAll c k.1 (h + 3) : sProp 𝕄) := by
  unfold Oth
  rw [if_pos hc, min_eq_left (by omega), show k.2 = 3 from Fin.ext hc.1]
  unfold canAll
  simp only [sepL]
  iintro ⟨⟨#H0, #H1, #H2⟩, #H3⟩
  isplitr; · iexact H0
  isplitr; · iexact H1
  isplitr; · iexact H2
  isplitr; · iexact H3
  iempintro

/-- A hop from the arrival on, its conditional steps one after the other. -/
theorem hopRest_eq (d : Dev nD) (h : Fin 15) (k : Bool × Fin 4) (p : FVec F S256x1024 .f32) : hopRest d h k p =
    (if 1 ≤ h.val then waitSent k.1 (par (h.val + 1)) k.2 else pure ⟨⟩) >>= fun _ => loadPiece (recvB k.1) (par h.val) k.2 >>= fun a =>
      loadPiece (F := F) (sendB k.1) (par (h.val + 1)) k.2 >>= fun _ => storePiece (sendB k.1) (par (h.val + 1)) k.2 (stepVal p a) >>= fun _ =>
        (if k.2.val = 3 ∧ h.val ≤ 12 then semSignalWord (dst (!k.1) d) (creditS k.1).sem 1#32 else pure ⟨⟩) >>= fun _ =>
          (if k.2.val = 0 ∧ 1 ≤ h.val then semWaitWord (creditS k.1).sem 1#32 else pure ⟨⟩) >>= fun _ => startSend d k.1 (par (h.val + 1)) k.2 := by
  unfold hopRest
  split_ifs <;> rfl

/-- Hop `h` of a sub-column. -/
theorem hop_op (c : Dev nD) (k : Bool × Fin 4) (h : Fin 15) (hh : h.val ≤ 13) (l : List Pay) (hl : ∀ x ∈ l, 2 * h.val + 2 < x.level ∧ x.level < 40)
    (Q : PUnit → sProp 𝕄) :
    iprop(Recs m κ ιs ∗ xH m c ∗ wH m c ∗ Key c k h.val ∗ OW c (hopPays h.val k ++ l) ∗ sepL (Pay.supply c) (hopPays h.val k)
        ∗ sepL (fun x => cred (Pay.due c x)) (hopGets h.val k) ∗ Tgt c k h.val ∗ Oth c k h.val)
      ⊢ iprop(((xH m c ∗ wH m c ∗ Key c k (h.val + 1) ∗ OW c l) -∗ Q ⟨⟩) -∗ runs c (hopStep c h k) Q) := by
  have hl1 : ∀ x ∈ hopPays h.val k ++ l, 2 * h.val + 2 < x.level ∧ x.level < 40 := by
    intro x hx
    rcases List.mem_append.mp hx with hx | hx
    · refine ⟨level_hopPays hx, ?_⟩
      unfold hopPays at hx
      rcases List.mem_append.mp hx with hx | hx
      · split at hx
        · rw [List.mem_singleton.mp hx]; show 2 * h.val + 3 < 40; omega
        · exact absurd hx List.not_mem_nil
      · rw [List.mem_singleton.mp hx]; show 2 * (h.val + 1) + 2 < 40; omega
    · exact hl x hx
  have hl2 : ∀ x ∈ Pay.send k.1 k.2 (h.val + 1) :: l, 2 * h.val + 2 < x.level ∧ x.level < 40 := by
    intro x hx
    exact hl1 x (by
      unfold hopPays
      rcases List.mem_cons.mp hx with rfl | hx
      · exact List.mem_append_left _ (List.mem_append_right _ List.mem_cons_self)
      · exact List.mem_append_right _ hx)
  obtain ⟨r, j⟩ := k
  unfold hopStep hopFrom
  simp only [hopRest_eq, runs_bind]
  unfold Key Out
  rw [show InK (F := F) c (r, j) h.val = In c (r, j) h.val from if_pos (by omega)]
  unfold In
  iintro ⟨#HR, Hx, Hw, ⟨Hsent, ⟨Hat, Hcr⟩, ⟨Hiat, Hird⟩, Hi1, #Hc, Hg, #Ht⟩, HO, Hsu, Hdue, #Htgt, #Hoth⟩ Hk
  ihave Hdue' := (show sepL (fun x => cred (Pay.due c x)) (hopGets h.val (r, j))
    ⊢ (iprop(cred (Pay.due c (.send r j h.val)) ∗ sepL (fun x => cred (Pay.due c x)) (if j.val = 0 ∧ 1 ≤ h.val then [.cred r (h.val - 1)] else [])) : sProp 𝕄)
      from BI.Entails.refl _) $$ Hdue
  icases Hdue' with ⟨Hdr, Hdc⟩
  ihave Hsu' := (show sepL (Pay.supply c) (hopPays h.val (r, j))
    ⊢ (iprop(sepL (Pay.supply c) (if j.val = 3 ∧ h.val ≤ 12 then [.cred r h.val] else []) ∗ Pay.supply c (.send r j (h.val + 1))) : sProp 𝕄)
      from by unfold hopPays; rw [sepL_append, sepL_single]) $$ Hsu
  icases Hsu' with ⟨Hsc, Hss⟩
  iapply (loadX_op c (rowsOff r c h) (rowsOff_inb r c h)) $$ Hx
  iintro Hx
  iapply (loadW_op c r j) $$ Hw
  iintro Hw
  iapply (waitRecv_op (m := m) (κ := κ) (ιs := ιs) c r j (h := h.val) (by omega) (hopPays h.val (r, j) ++ l) hl1) $$ [Hdr HO Hiat]
  · isplitr; · iexact HR
    isplitl [Hdr]; · iexact Hdr
    isplitl [HO]; · iexact HO
    iexact Hiat
  iintro ⟨HO, Hiat, #Hire, Hgot⟩
  iapply (sentPart (m := m) (κ := κ) (ιs := ιs) c (r, j) (h := h.val) hh (hopPays h.val (r, j) ++ l) (fun x hx => ⟨by have := (hl1 x hx).1; omega, (hl1 x hx).2⟩)) $$ [Hsent HO]
  · isplitr; · iexact HR
    isplitl [Hsent]; · iexact Hsent
    iexact HO
  unfold Free
  iintro ⟨⟨Hat1, #Hre1, Hs1⟩, HO⟩
  iapply (loadGot_op c r j h.val) $$ Hgot
  iintro %a %ha Hrs
  iapply (loadSlot_op c r (par (h.val + 1)) j) $$ Hs1
  iintro %b Hs1
  iapply (storePiece_op c r (par (h.val + 1)) j (accVal (prod (castX (xM.view.readAt (Elt F) (Rect.unit (s := S4096x256) (rowsOff r c h) S256x256.size (rowsOff_inb r c h)).toLoadRect (xAt m c)))
    (castW (wM.view.readAt (Elt F) (colR r j).toLoadRect (wAt m c)))) a)) $$ Hs1
  iintro Hs1
  have hv : accVal (prod (castX (xM.view.readAt (Elt F) (Rect.unit (s := S4096x256) (rowsOff r c h) S256x256.size (rowsOff_inb r c h)).toLoadRect (xAt m c)))
    (castW (wM.view.readAt (Elt F) (colR r j).toLoadRect (wAt m c)))) a = sentV m r j (h.val + 1) c := by
    rw [sentV_succ, ← ha]; rfl
  rw [hv]
  imod (releasePart (m := m) (κ := κ) (ιs := ιs) c (r, j) (h := h.val) hh) $$ [Hiat Hird Hrs] with ⟨Hi2, #Hc2⟩
  · isplitr; · iexact HR
    isplitl [Hiat]; · iexact Hiat
    isplitr; · iexact Hire
    isplitl [Hird]; · iexact Hird
    isplitl [Hrs]; · iexact Hrs
    iexact Hc
  have hpl : hopPays h.val (r, j) ++ l = (if j.val = 3 ∧ h.val ≤ 12 then [.cred r h.val] else []) ++ (Pay.send r j (h.val + 1) :: l) := by
    unfold hopPays; rw [List.append_assoc]; rfl
  rw [hpl]
  iapply (creditPart (m := m) (κ := κ) (ιs := ιs) c (r, j) (h := h.val) iprop(Oth c (r, j) h.val ∗ canK c r j (min (h.val + 3) 15))
    (fun hc => all_can c (r, j) hc) (Pay.send r j (h.val + 1) :: l)) $$ [HO Hsc]
  · isplitr; · iexact HR
    isplitl [HO]; · iexact HO
    isplitl [Hsc]; · iexact Hsc
    isplitr; · iexact Hoth
    iexact Hc2
  iintro HO
  iapply (waitPart (m := m) (κ := κ) (ιs := ιs) c (r, j) (h := h.val) hh (Pay.send r j (h.val + 1) :: l) hl2) $$ [HO Hdc Hg]
  · isplitr; · iexact HR
    isplitl [HO]; · iexact HO
    isplitl [Hdc]; · iexact Hdc
    isplitl [Hg]; · iexact Hg
    isplitr; · iexact Ht
    iexact Htgt
  iintro ⟨HO, Hg, #Ht2⟩
  have hcan : canAll (F := F) (dst r c) r (h.val + 2) ⊢ can (dst r c) r (h.val + 1) j := by
    unfold canAll canK
    exact BI.Entails.trans (sepL_elim (a := j) (mem_four j)) (sepL_elim (a := h.val + 1) (List.mem_range.mpr (by omega)))
  iapply (startSend_op (m := m) (κ := κ) (ιs := ιs) c r j (h := h.val + 1) (by omega) l Q) $$ [Hs1 HO Hss]
  · isplitr; · iexact HR
    isplitl [Hs1]; · iexact Hs1
    isplitl [HO]; · iexact HO
    isplitl [Hss]; · iexact Hss
    isplitr; · iapply hcan; iexact Ht2
    iexact Hre1
  iintro ⟨Hcr1, HO⟩
  iapply Hk
  isplitl [Hx]; · iexact Hx
  isplitl [Hw]; · iexact Hw
  isplitr [HO]
  · isplitl [Hat Hcr]
    · unfold Sent Out
      rw [if_neg (by omega), show h.val + 1 - 1 = h.val from rfl]
      isplitl [Hat]; · iexact Hat
      iexact Hcr
    isplitl [Hat1 Hcr1]
    · isplitl [Hat1]; · iexact Hat1
      iexact Hcr1
    isplitl [Hi1]; · iexact Hi1
    isplitl [Hi2]; · iexact Hi2
    isplitr; · iexact Hc2
    isplitl [Hg]; · iexact Hg
    rw [max_eq_left (show 2 ≤ h.val + 1 + 1 by omega)]
    iexact Ht2
  iexact HO

/-! ## The last hop, and the drain -/

/-- The last hop of a sub-column: its block of the result is stored. -/
theorem last_op (c : Dev nD) (k : Bool × Fin 4) (l : List Pay) (hl : ∀ x ∈ l, 30 < x.level ∧ x.level < 40)
    (f : (cc0_stg2_0 : Ref sig .tc).ty.Contents (Elt F)) (Q : PUnit → sProp 𝕄) :
    iprop(Recs m κ ιs ∗ xH m c ∗ wH m c ∗ Key c k 14 ∗ OW c l ∗ cred (Pay.due c (.send k.1 k.2 14)) ∗ oH c f)
      ⊢ iprop(((xH m c ∗ wH m c ∗ Fin2 c k ∗ OW c l ∗ oH c ((oM.access (colR k.1 k.2)).write (Elt F) f (outV m c k.1 k.2) Finset.univ)) -∗ Q ⟨⟩)
        -∗ runs c (lastStep c k) Q) := by
  obtain ⟨r, j⟩ := k
  unfold lastStep
  simp only [runs_bind]
  unfold Key
  rw [show InK (F := F) c (r, j) 14 = In c (r, j) 14 from if_pos (by omega), show InK (F := F) c (r, j) (14 + 1) = Done c (r, j) 13 from if_neg (by omega),
    show Sent (F := F) c (r, j) 14 = Out c (r, j) 13 from if_neg (by omega)]
  unfold In
  iintro ⟨#HR, Hx, Hw, ⟨Hsent, Hout, ⟨Hiat, Hird⟩, Hi1, #Hc, Hg, #Ht⟩, HO, Hdue, Ho⟩ Hk
  iapply (loadX_op c (rowsOff r c 14) (rowsOff_inb r c 14)) $$ Hx
  iintro Hx
  iapply (loadW_op c r j) $$ Hw
  iintro Hw
  iapply (waitRecv_op (m := m) (κ := κ) (ιs := ιs) c r j (h := 14) (by omega) l hl) $$ [Hdue HO Hiat]
  · isplitr; · iexact HR
    isplitl [Hdue]; · iexact Hdue
    isplitl [HO]; · iexact HO
    iexact Hiat
  iintro ⟨HO, Hiat, #Hire, Hgot⟩
  iapply (loadGot_op c r j 14) $$ Hgot
  iintro %a %ha Hrs
  iapply (loadOut_op c r j f) $$ Ho
  iintro %b Ho
  iapply (storeOut_op c r j f _ Q) $$ Ho
  iintro Ho
  have hv : lastVal (prod (castX (xM.view.readAt (Elt F) (Rect.unit (s := S4096x256) (rowsOff r c 14) S256x256.size (rowsOff_inb r c 14)).toLoadRect (xAt m c)))
    (castW (wM.view.readAt (Elt F) (colR r j).toLoadRect (wAt m c)))) a = outV m c r j := by
    unfold outV wholeV lastVal
    rw [← ha]; rfl
  rw [hv]
  iapply Hk
  isplitl [Hx]; · iexact Hx
  isplitl [Hw]; · iexact Hw
  isplitr [HO Ho]
  · unfold Fin2
    isplitl [Hsent]; · iexact Hsent
    isplitl [Hout]; · iexact Hout
    isplitl [Hi1]; · iexact Hi1
    isplitl [Hiat Hrs]
    · unfold Done
      isplitl [Hiat]; · iexact Hiat
      iexact Hrs
    iexact Hg
  isplitl [HO]; · iexact HO
  iexact Ho

/-- The last two sends of a sub-column have left. -/
theorem drain_op (c : Dev nD) (k : Bool × Fin 4) (l : List Pay) (hl : ∀ x ∈ l, 0 < x.level ∧ x.level < 40) (Q : PUnit → sProp 𝕄) :
    iprop(Recs m κ ιs ∗ Fin2 c k ∗ OW c l)
      ⊢ iprop(((End c k ∗ OW c l) -∗ Q ⟨⟩) -∗ runs c (drainStep k) Q) := by
  obtain ⟨r, j⟩ := k
  unfold drainStep
  simp only [runs_bind]
  unfold Fin2 Out End
  iintro ⟨#HR, ⟨⟨Hat1, Hc1⟩, ⟨Hat0, Hc0⟩, Hd⟩, HO⟩ Hk
  iapply (waitSent_op (m := m) (κ := κ) (ιs := ιs) c r j (h := 13) (by omega) l hl) $$ [Hat1 Hc1 HO]
  · isplitr; · iexact HR
    isplitl [Hc1]; · iexact Hc1
    isplitl [HO]; · iexact HO
    iexact Hat1
  iintro ⟨HO, Hat1, #Hr1, Hs1⟩
  iapply (waitSent_op (m := m) (κ := κ) (ιs := ιs) c r j (h := 14) (by omega) l hl) $$ [Hat0 Hc0 HO]
  · isplitr; · iexact HR
    isplitl [Hc0]; · iexact Hc0
    isplitl [HO]; · iexact HO
    iexact Hat0
  iintro ⟨HO, Hat0, #Hr0, Hs0⟩
  iapply Hk
  isplitr [HO]
  · isplitl [Hat1 Hs1]
    · unfold Free
      isplitl [Hat1]; · iexact Hat1
      isplitr; · iexact Hr1
      iexact Hs1
    isplitl [Hat0 Hs0]
    · unfold Free
      isplitl [Hat0]; · iexact Hat0
      isplitr; · iexact Hr0
      iexact Hs0
    iexact Hd
  iexact HO

end Cert.KernelIdeal.Rings

end
-- ==== Proof.Loops.lean ====
/-
  The loops of the kernel: the seeds, the hops.
-/
module

public import proofs.«01_k».proof.Proof.Steps

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (κ : GSem nD τ sig → ℕ) (ιs : SK → ℕ)

variable {m κ ιs}

/-! ## Loops -/

/-- The rule of a loop over a list: an invariant of the members done and the members left. -/
theorem each_op (c : Dev nD) {α : Type} (l : List α) (f : α → P F PUnit) (I : List α → List α → sProp 𝕄)
    (hstep : ∀ done a rest, l = done ++ a :: rest → ∀ Q : PUnit → sProp 𝕄,
      I done (a :: rest) ⊢ iprop((I (done ++ [a]) rest -∗ Q ⟨⟩) -∗ runs c (f a) Q)) (Q : PUnit → sProp 𝕄) :
    I [] l ⊢ iprop((I l [] -∗ Q ⟨⟩) -∗ runs c (each l f) Q) := by
  have key : ∀ rest done, l = done ++ rest → I done rest ⊢ iprop((I l [] -∗ Q ⟨⟩) -∗ runs c (each rest f) Q) := by
    intro rest
    induction rest with
    | nil =>
      intro done h
      rw [List.append_nil] at h; subst h
      iintro H Hk
      iapply (runs_pure c PUnit.unit Q)
      iapply Hk; iexact H
    | cons a rest ih =>
      intro done h
      unfold each
      rw [runs_bind]
      iintro H Hk
      iapply (hstep done a rest h) $$ H
      iintro H
      iapply (ih (done ++ [a]) (by rw [h, List.append_assoc]; rfl)) $$ H
      iexact Hk
  exact key l [] rfl

/-- A step of each member, side by side. -/
theorem sepL_fupd {A : Type} {Z : sProp 𝕄} [BI.Persistent Z] {Φ Ψ : A → sProp 𝕄} (l : List A)
    (h : ∀ a, iprop(Z ∗ Φ a) ⊢ (|={Set.univ}=> Ψ a : sProp 𝕄)) : iprop(Z ∗ sepL Φ l) ⊢ (|={Set.univ}=> sepL Ψ l : sProp 𝕄) := by
  induction l with
  | nil => show iprop(Z ∗ emp) ⊢ (|={Set.univ}=> emp : sProp 𝕄); iintro -; imodintro; iempintro
  | cons a l ih =>
    show iprop(Z ∗ Φ a ∗ sepL Φ l) ⊢ (|={Set.univ}=> (Ψ a ∗ sepL Ψ l) : sProp 𝕄)
    iintro ⟨#HZ, Ha, Hl⟩
    imod (h a) $$ [Ha] with Ha
    · isplitr; · iexact HZ
      iexact Ha
    imod ih $$ [Hl] with Hl
    · isplitr; · iexact HZ
      iexact Hl
    imodintro
    isplitl [Ha]; · iexact Ha
    iexact Hl

theorem keep {X Z : sProp 𝕄} [BI.Persistent Z] (h : X ⊢ Z) : X ⊢ iprop(X ∗ Z) := persistent_entails_left h

/-! ## The seeds -/

theorem seeds_op (c : Dev nD) (L : List Pay) (Q : PUnit → sProp 𝕄) :
    iprop(Recs m κ ιs ∗ xH m c ∗ wH m c ∗ sepL (Seed c) keys ∗ OW c (seedPays ++ L) ∗ sepL (Pay.supply c) seedPays)
      ⊢ iprop(((xH m c ∗ wH m c ∗ sepL (fun k => Key c k 0) keys ∗ OW c L) -∗ Q ⟨⟩) -∗ runs c (each keys (seedStep c)) Q) := by
  have step := each_op c keys (seedStep (F := F) c) (fun done rest => iprop(Recs m κ ιs ∗ xH m c ∗ wH m c ∗ sepL (fun k => Key c k 0) done ∗ sepL (Seed c) rest
      ∗ OW c ((rest.map fun k => .send k.1 k.2 0) ++ L) ∗ sepL (Pay.supply c) (rest.map fun k => .send k.1 k.2 0))) (by
    intro done k rest _ Q
    rw [List.map_cons, List.cons_append, sepL_append, sepL_single]
    simp only [sepL]
    iintro ⟨#HR, Hx, Hw, Hd, ⟨Hs, Hrest⟩, HO, Hsu, Hsus⟩ Hk
    iapply (seed_op (m := m) (κ := κ) (ιs := ιs) c k ((rest.map fun k => .send k.1 k.2 0) ++ L) Q) $$ [Hx Hw Hs HO Hsu]
    · isplitr; · iexact HR
      isplitl [Hx]; · iexact Hx
      isplitl [Hw]; · iexact Hw
      isplitl [Hs]; · iexact Hs
      isplitl [HO]; · iexact HO
      iexact Hsu
    iintro ⟨Hx, Hw, Hkey, HO⟩
    iapply Hk
    isplitr; · iexact HR
    isplitl [Hx]; · iexact Hx
    isplitl [Hw]; · iexact Hw
    isplitl [Hd Hkey]
    · isplitl [Hd]; · iexact Hd
      iexact Hkey
    isplitl [Hrest]; · iexact Hrest
    isplitl [HO]; · iexact HO
    iexact Hsus) Q
  iintro ⟨#HR, Hx, Hw, Hs, HO, Hsu⟩ Hk
  iapply step $$ [Hx Hw Hs HO Hsu]
  · isplitr; · iexact HR
    isplitl [Hx]; · iexact Hx
    isplitl [Hw]; · iexact Hw
    isplitr; · iempintro
    isplitl [Hs]; · iexact Hs
    isplitl [HO]; · iexact HO
    iexact Hsu
  iintro ⟨-, Hx, Hw, Hd, -, HO, -⟩
  iapply Hk
  isplitl [Hx]; · iexact Hx
  isplitl [Hw]; · iexact Hw
  isplitl [Hd]; · iexact Hd
  iexact HO

/-! ## A hop of all sub-columns -/

theorem key_canK (c : Dev nD) (k : Bool × Fin 4) (h : ℕ) : Key (F := F) c k h ⊢ canK c k.1 k.2 (min (h + 2) 15) := by
  unfold Key
  iintro ⟨-, -, -, -, H, -⟩; iexact H
theorem key_tgt (c : Dev nD) (k : Bool × Fin 4) (h : ℕ) : Key (F := F) c k h ⊢ canAll (dst k.1 c) k.1 (max (h + 1) 2) := by
  unfold Key
  iintro ⟨-, -, -, -, -, -, H⟩; iexact H

/-- What the sub-columns done already tell the next one. -/
theorem facts_of (c : Dev nD) {done rest : List (Bool × Fin 4)} {k : Bool × Fin 4} (hk : keys = done ++ k :: rest) (h : ℕ) :
    sepL (fun k => Key (F := F) c k (h + 1)) done ⊢ iprop(sepL (fun k => Key c k (h + 1)) done ∗ Tgt c k h ∗ Oth c k h) := by
  have hcan : ∀ i : Fin 4, i < k.2 → h ≤ 12 → sepL (fun k => Key (F := F) c k (h + 1)) done ⊢ canK c k.1 i (h + 3) := fun i hi h12 => by
    have e := BI.Entails.trans (sepL_elim (Φ := fun k => Key (F := F) c k (h + 1)) (a := (k.1, i)) (keys_prev hk hi)) (key_canK c (k.1, i) (h + 1))
    rwa [min_eq_left (show h + 1 + 2 ≤ 15 by omega)] at e
  have h1 : sepL (fun k => Key (F := F) c k (h + 1)) done ⊢ Tgt c k h := by
    unfold Tgt
    split
    · iintro -; iempintro
    · next hj =>
      have e := BI.Entails.trans (sepL_elim (Φ := fun k => Key (F := F) c k (h + 1)) (a := (k.1, 0)) (keys_prev hk (Fin.pos_iff_ne_zero.mpr fun e => hj (congrArg Fin.val e))))
        (key_tgt c (k.1, 0) (h + 1))
      rwa [max_eq_left (show 2 ≤ h + 1 + 1 by omega)] at e
  have h2 : sepL (fun k => Key (F := F) c k (h + 1)) done ⊢ Oth c k h := by
    unfold Oth
    split
    · next hc =>
      have e : k.2 = 3 := Fin.ext hc.1
      iintro H
      ihave H := (keep (hcan 0 (by rw [e]; decide) hc.2)) $$ H
      icases H with ⟨H, #H0⟩
      ihave H := (keep (hcan 1 (by rw [e]; decide) hc.2)) $$ H
      icases H with ⟨H, #H1⟩
      ihave H := (keep (hcan 2 (by rw [e]; decide) hc.2)) $$ H
      icases H with ⟨H, #H2⟩
      isplitr; · iexact H0
      isplitr; · iexact H1
      iexact H2
    · iintro -; iempintro
  iintro H
  ihave H := (keep h1) $$ H
  icases H with ⟨H, #H1⟩
  ihave H := (keep h2) $$ H
  icases H with ⟨H, #H2⟩
  isplitl [H]; · iexact H
  isplitr; · iexact H1
  iexact H2

/-- What is left to pay at a hop comes later than what the hop waits for. -/
theorem rest_levels (rest : List (Bool × Fin 4)) {h : ℕ} (hh : h ≤ 13) :
    ∀ x ∈ rest.flatMap (hopPays h) ++ paysFrom (h + 1), 2 * h + 2 < x.level ∧ x.level < 40 := by
  intro x hx
  rcases List.mem_append.mp hx with hx | hx
  · refine ⟨level_flatMap hx, ?_⟩
    obtain ⟨k, -, hx⟩ := List.mem_flatMap.mp hx
    unfold hopPays at hx
    rcases List.mem_append.mp hx with hx | hx
    · split at hx
      · rw [List.mem_singleton.mp hx]; show 2 * h + 3 < 40; omega
      · exact absurd hx List.not_mem_nil
    · rw [List.mem_singleton.mp hx]; show 2 * (h + 1) + 2 < 40; omega
  · refine ⟨?_, pay_bounds x ?_⟩
    · have := level_paysFrom (show h + 1 ≤ 14 by omega) hx; omega
    · unfold allPays
      refine List.mem_cons_of_mem _ (List.mem_cons_of_mem _ (List.mem_append_right _ ?_))
      unfold paysFrom at hx ⊢
      rw [List.mem_flatMap] at hx ⊢
      obtain ⟨a, ha, hx⟩ := hx
      exact ⟨a, List.mem_of_mem_drop ha, hx⟩

theorem hopKeys_op (c : Dev nD) (h : Fin 15) (hh : h.val ≤ 13) (Q : PUnit → sProp 𝕄) :
    iprop(Recs m κ ιs ∗ xH m c ∗ wH m c ∗ sepL (fun k => Key c k h.val) keys ∗ OW c (keys.flatMap (hopPays h.val) ++ paysFrom (h.val + 1))
        ∗ sepL (Pay.supply c) (keys.flatMap (hopPays h.val)) ∗ sepL (fun x => cred (Pay.due c x)) (keys.flatMap (hopGets h.val)))
      ⊢ iprop(((xH m c ∗ wH m c ∗ sepL (fun k => Key c k (h.val + 1)) keys ∗ OW c (paysFrom (h.val + 1))) -∗ Q ⟨⟩)
        -∗ runs c (each keys (hopStep c h)) Q) := by
  have step := each_op c keys (hopStep (F := F) c h) (fun done rest => iprop(Recs m κ ιs ∗ xH m c ∗ wH m c ∗ sepL (fun k => Key c k (h.val + 1)) done
      ∗ sepL (fun k => Key c k h.val) rest ∗ OW c (rest.flatMap (hopPays h.val) ++ paysFrom (h.val + 1)) ∗ sepL (Pay.supply c) (rest.flatMap (hopPays h.val))
      ∗ sepL (fun x => cred (Pay.due c x)) (rest.flatMap (hopGets h.val)))) (by
    intro done k rest hk Q
    rw [List.flatMap_cons, List.flatMap_cons, List.append_assoc, sepL_append (Pay.supply c), sepL_append (fun x => cred (Pay.due c x)),
      sepL_append (fun k => Key c k (h.val + 1)), sepL_single]
    rw [show sepL (fun k => Key (F := F) c k h.val) (k :: rest) = iprop(Key c k h.val ∗ sepL (fun k => Key c k h.val) rest) from rfl]
    iintro ⟨#HR, Hx, Hw, Hd, ⟨Hs, Hrest⟩, HO, ⟨Hsu, Hsus⟩, Hdu, Hdus⟩ Hk
    ihave Hd := (facts_of c hk h.val) $$ Hd
    icases Hd with ⟨Hd, #Htgt, #Hoth⟩
    iapply (hop_op (m := m) (κ := κ) (ιs := ιs) c k h hh (rest.flatMap (hopPays h.val) ++ paysFrom (h.val + 1)) (rest_levels rest hh) Q) $$ [Hx Hw Hs HO Hsu Hdu]
    · isplitr; · iexact HR
      isplitl [Hx]; · iexact Hx
      isplitl [Hw]; · iexact Hw
      isplitl [Hs]; · iexact Hs
      isplitl [HO]; · iexact HO
      isplitl [Hsu]; · iexact Hsu
      isplitl [Hdu]; · iexact Hdu
      isplitr; · iexact Htgt
      iexact Hoth
    iintro ⟨Hx, Hw, Hkey, HO⟩
    iapply Hk
    isplitr; · iexact HR
    isplitl [Hx]; · iexact Hx
    isplitl [Hw]; · iexact Hw
    isplitl [Hd Hkey]
    · isplitl [Hd]; · iexact Hd
      iexact Hkey
    isplitl [Hrest]; · iexact Hrest
    isplitl [HO]; · iexact HO
    isplitl [Hsus]; · iexact Hsus
    iexact Hdus) Q
  iintro ⟨#HR, Hx, Hw, Hs, HO, Hsu, Hdu⟩ Hk
  iapply step $$ [Hx Hw Hs HO Hsu Hdu]
  · isplitr; · iexact HR
    isplitl [Hx]; · iexact Hx
    isplitl [Hw]; · iexact Hw
    isplitr; · iempintro
    isplitl [Hs]; · iexact Hs
    isplitl [HO]; · iexact HO
    isplitl [Hsu]; · iexact Hsu
    iexact Hdu
  iintro ⟨-, Hx, Hw, Hd, -, HO, -⟩
  iapply Hk
  isplitl [Hx]; · iexact Hx
  isplitl [Hw]; · iexact Hw
  isplitl [Hd]; · iexact Hd
  iexact HO

/-! ## All hops but the last -/

theorem hops_op (c : Dev nD) (Q : PUnit → sProp 𝕄) : ∀ d n : ℕ, n + d = 14 →
    (iprop(Recs m κ ιs ∗ xH m c ∗ wH m c ∗ sepL (fun k => Key c k n) keys ∗ OW c (paysFrom n)
        ∗ sepL (Pay.supply c) (paysFrom n) ∗ sepL (fun x => cred (Pay.due c x)) (getsFrom n))
      ⊢ iprop(((xH m c ∗ wH m c ∗ sepL (fun k => Key c k 14) keys ∗ OW c [] ∗ sepL (fun x => cred (Pay.due c x)) lastGets) -∗ Q ⟨⟩)
        -∗ runs c (each (hops.drop n) fun h => each keys (hopStep c h)) Q)) := by
  intro d
  induction d with
  | zero =>
    intro n hn
    obtain rfl : n = 14 := hn
    rw [paysFrom_end, getsFrom_end, show hops.drop 14 = [] from rfl]
    iintro ⟨#HR, Hx, Hw, Hs, HO, Hsu, Hdu⟩ Hk
    iapply (runs_pure c PUnit.unit Q)
    iapply Hk
    isplitl [Hx]; · iexact Hx
    isplitl [Hw]; · iexact Hw
    isplitl [Hs]; · iexact Hs
    isplitl [HO]; · iexact HO
    iexact Hdu
  | succ d ih =>
    intro n hn
    have hn' : n < 14 := by omega
    rw [paysFrom_succ hn', getsFrom_succ hn', hops_drop ⟨n, hn'⟩, sepL_append (Pay.supply c), sepL_append (fun x => cred (Pay.due c x))]
    unfold each
    rw [runs_bind]
    iintro ⟨#HR, Hx, Hw, Hs, HO, ⟨Hsu, Hsus⟩, Hdu, Hdus⟩ Hk
    iapply (hopKeys_op (m := m) (κ := κ) (ιs := ιs) c ⟨n, Nat.lt_succ_of_lt hn'⟩ (Nat.lt_succ_iff.mp hn')) $$ [Hx Hw Hs HO Hsu Hdu]
    · isplitr; · iexact HR
      isplitl [Hx]; · iexact Hx
      isplitl [Hw]; · iexact Hw
      isplitl [Hs]; · iexact Hs
      isplitl [HO]; · iexact HO
      isplitl [Hsu]; · iexact Hsu
      iexact Hdu
    iintro ⟨Hx, Hw, Hs, HO⟩
    iapply (ih (n + 1) (by omega)) $$ [Hx Hw Hs HO Hsus Hdus]
    · isplitr; · iexact HR
      isplitl [Hx]; · iexact Hx
      isplitl [Hw]; · iexact Hw
      isplitl [Hs]; · iexact Hs
      isplitl [HO]; · iexact HO
      isplitl [Hsus]; · iexact Hsus
      iexact Hdus
    iexact Hk

end Cert.KernelIdeal.Rings

end
-- ==== Proof.Body.lean ====
/-
  The whole body: the handshake, the seeds, the hops, the last hop with the result it stores, the drain.
-/
module

public import proofs.«01_k».proof.Proof.Loops

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (κ : GSem nD τ sig → ℕ) (ιs : SK → ℕ)

/-! ## What the result holds -/

/-- The sub-column of a column of the result. -/
def keyOf (n : ℕ) : Bool × Fin 4 := (decide (4096 ≤ n), ⟨n % 4096 / 1024, by omega⟩)

theorem keyOf_iff {n : ℕ} (hn : n < 8192) (k : Bool × Fin 4) : keyOf n = k ↔ col k.1 k.2 ≤ n ∧ n < col k.1 k.2 + 1024 := by
  obtain ⟨r, j⟩ := k
  have hj := j.isLt
  unfold keyOf
  constructor
  · intro h
    have h1 : decide (4096 ≤ n) = r := congrArg Prod.fst h
    have h2 : n % 4096 / 1024 = j.val := congrArg (fun p : Bool × Fin 4 => p.2.val) h
    cases r
    · have h1 := of_decide_eq_false h1
      show 1024 * j.val ≤ n ∧ n < 1024 * j.val + 1024
      omega
    · have h1 := of_decide_eq_true h1
      show 4096 + 1024 * j.val ≤ n ∧ n < 4096 + 1024 * j.val + 1024
      omega
  · intro h
    cases r
    · have h : 1024 * j.val ≤ n ∧ n < 1024 * j.val + 1024 := h
      refine Prod.ext (decide_eq_false (by omega)) (Fin.ext ?_)
      show n % 4096 / 1024 = j.val
      omega
    · have h : 4096 + 1024 * j.val ≤ n ∧ n < 4096 + 1024 * j.val + 1024 := h
      refine Prod.ext (decide_eq_true (by omega)) (Fin.ext ?_)
      show n % 4096 / 1024 = j.val
      omega

/-- The place of an element of the result within its sub-column. -/
def locOf (i : S256x8192.Idx) : S256x1024.Idx := fun a => match a with
  | ⟨0, _⟩ => ⟨(i 0).val, (i 0).isLt⟩
  | ⟨1, _⟩ => ⟨(i 1).val % 1024, Nat.mod_lt _ (by decide)⟩

/-- What a device's result holds. -/
def outAt (c : Dev nD) : (cc0_stg2_0 : Ref sig .tc).ty.Contents (Elt F) := fun i : S256x8192.Idx =>
  outV m c (keyOf (i 1).val).1 (keyOf (i 1).val).2 (locOf i)

/-- A store of a sub-column's block leaves the result's values there and changes nothing elsewhere. -/
theorem stored (c : Dev nD) (k : Bool × Fin 4) (f : (cc0_stg2_0 : Ref sig .tc).ty.Contents (Elt F)) (i : S256x8192.Idx) :
    ((oM.access (colR k.1 k.2)).write (Elt F) f (outV m c k.1 k.2) Finset.univ) i = if keyOf (i 1).val = k then outAt m c i else f i := by
  have e : (oM.access (colR k.1 k.2)).write (Elt F) f (outV m c k.1 k.2) Finset.univ
      = updateSlice f (outV m c k.1 k.2) ![0, col k.1 k.2] ⟨rfl, inb_col k.1 k.2⟩ :=
    View.write_whole_slice_unit cc0_stg2_0 ![0, col k.1 k.2] S256x1024.size (inb_col k.1 k.2) f (outV m c k.1 k.2)
  rw [e]
  have h0 : (i 0).val < 256 := (i 0).isLt
  have h1 : (i 1).val < 8192 := (i 1).isLt
  by_cases hk : keyOf (i 1).val = k
  · have hc := (keyOf_iff h1 k).mp hk
    rw [if_pos hk]
    have hin : ∀ a : Fin 2, (![0, col k.1 k.2] : Fin 2 → ℕ) a ≤ (i a).val ∧ (i a).val < (![0, col k.1 k.2] : Fin 2 → ℕ) a + S256x1024.size a := by
      intro a
      match a with
      | ⟨0, _⟩ => exact ⟨Nat.zero_le _, by show (i 0).val < 0 + 256; omega⟩
      | ⟨1, _⟩ => exact hc
    unfold updateSlice
    refine (dif_pos hin).trans ?_
    unfold outAt
    subst hk
    refine congrArg (outV m c _ _) (funext fun a => ?_)
    match a with
    | ⟨0, _⟩ => exact Fin.ext (Nat.sub_zero _)
    | ⟨1, _⟩ =>
      apply Fin.ext
      show (i 1).val - col _ _ = (i 1).val % 1024
      have : ∃ q, col (keyOf (i 1).val).1 (keyOf (i 1).val).2 = 1024 * q := by
        cases (keyOf (i 1).val).1
        · exact ⟨_, rfl⟩
        · exact ⟨4 + (keyOf (i 1).val).2.val, by show 4096 + 1024 * _ = _; omega⟩
      obtain ⟨q, hq⟩ := this
      rw [hq] at hc ⊢
      omega
  · rw [if_neg hk]
    unfold updateSlice
    exact dif_neg fun hin => hk ((keyOf_iff h1 k).mpr (hin 1))

theorem keyOf_mem (n : ℕ) : keyOf n ∈ keys := by
  have : ∀ k : Bool × Fin 4, k ∈ keys := by decide
  exact this _

variable {m κ ιs}

/-! ## The last hop, and the drain -/

theorem lastKeys_op (c : Dev nD) (Q : PUnit → sProp 𝕄) :
    iprop(Recs m κ ιs ∗ xH m c ∗ wH m c ∗ sepL (fun k => Key c k 14) keys ∗ OW c [] ∗ sepL (fun x => cred (Pay.due c x)) lastGets ∗ ∃ f, oH c f)
      ⊢ iprop(((xH m c ∗ wH m c ∗ sepL (Fin2 c) keys ∗ OW c [] ∗ oH c (outAt m c)) -∗ Q ⟨⟩) -∗ runs c (each keys (lastStep c)) Q) := by
  have step := each_op c keys (lastStep (F := F) c) (fun done rest => iprop(Recs m κ ιs ∗ xH m c ∗ wH m c ∗ sepL (Fin2 c) done
      ∗ sepL (fun k => Key c k 14) rest ∗ OW c [] ∗ sepL (fun x => cred (Pay.due c x)) (rest.map fun k => .send k.1 k.2 14)
      ∗ ∃ f, ⌜∀ i : S256x8192.Idx, keyOf (i 1).val ∈ done → f i = outAt m c i⌝ ∗ oH c f)) (by
    intro done k rest _ Q
    rw [List.map_cons, sepL_append, sepL_single]
    simp only [sepL]
    iintro ⟨#HR, Hx, Hw, Hd, ⟨Hs, Hrest⟩, HO, ⟨Hdu, Hdus⟩, %f, %hf, Ho⟩ Hk
    iapply (last_op (m := m) (κ := κ) (ιs := ιs) c k [] (fun x hx => absurd hx List.not_mem_nil) f Q) $$ [Hx Hw Hs HO Hdu Ho]
    · isplitr; · iexact HR
      isplitl [Hx]; · iexact Hx
      isplitl [Hw]; · iexact Hw
      isplitl [Hs]; · iexact Hs
      isplitl [HO]; · iexact HO
      isplitl [Hdu]; · iexact Hdu
      iexact Ho
    iintro ⟨Hx, Hw, Hkey, HO, Ho⟩
    iapply Hk
    isplitr; · iexact HR
    isplitl [Hx]; · iexact Hx
    isplitl [Hw]; · iexact Hw
    isplitl [Hd Hkey]
    · isplitl [Hd]; · iexact Hd
      iexact Hkey
    isplitl [Hrest]; · iexact Hrest
    isplitl [HO]; · iexact HO
    isplitl [Hdus]; · iexact Hdus
    iexists ((oM.access (colR k.1 k.2)).write (Elt F) f (outV m c k.1 k.2) Finset.univ)
    isplitr
    · ipureintro
      intro i hi
      rw [stored]
      split
      · rfl
      · next hne =>
        rcases List.mem_append.mp hi with hi | hi
        · exact hf i hi
        · exact absurd (List.mem_singleton.mp hi) hne
    iexact Ho) Q
  iintro ⟨#HR, Hx, Hw, Hs, HO, Hdu, %f, Ho⟩ Hk
  iapply step $$ [Hx Hw Hs HO Hdu Ho]
  · isplitr; · iexact HR
    isplitl [Hx]; · iexact Hx
    isplitl [Hw]; · iexact Hw
    isplitr; · iempintro
    isplitl [Hs]; · iexact Hs
    isplitl [HO]; · iexact HO
    isplitl [Hdu]; · iexact Hdu
    iexists f
    isplitr; · ipureintro; exact fun i hi => absurd hi List.not_mem_nil
    iexact Ho
  iintro ⟨-, Hx, Hw, Hd, -, HO, -, %g, %hg, Ho⟩
  have e : g = outAt m c := funext fun i => hg i (keyOf_mem _)
  subst e
  iapply Hk
  isplitl [Hx]; · iexact Hx
  isplitl [Hw]; · iexact Hw
  isplitl [Hd]; · iexact Hd
  isplitl [HO]; · iexact HO
  iexact Ho

theorem drainKeys_op (c : Dev nD) (Q : PUnit → sProp 𝕄) :
    iprop(Recs m κ ιs ∗ sepL (Fin2 c) keys ∗ OW c [])
      ⊢ iprop(((sepL (End c) keys ∗ OW c []) -∗ Q ⟨⟩) -∗ runs c (each keys drainStep) Q) := by
  have step := each_op c keys (drainStep (F := F)) (fun done rest => iprop(Recs m κ ιs ∗ sepL (End c) done ∗ sepL (Fin2 c) rest ∗ OW c [])) (by
    intro done k rest _ Q
    rw [sepL_append, sepL_single]
    simp only [sepL]
    iintro ⟨#HR, Hd, ⟨Hs, Hrest⟩, HO⟩ Hk
    iapply (drain_op (m := m) (κ := κ) (ιs := ιs) c k [] (fun x hx => absurd hx List.not_mem_nil) Q) $$ [Hs HO]
    · isplitr; · iexact HR
      isplitl [Hs]; · iexact Hs
      iexact HO
    iintro ⟨Hkey, HO⟩
    iapply Hk
    isplitr; · iexact HR
    isplitl [Hd Hkey]
    · isplitl [Hd]; · iexact Hd
      iexact Hkey
    isplitl [Hrest]; · iexact Hrest
    iexact HO) Q
  iintro ⟨#HR, Hs, HO⟩ Hk
  iapply step $$ [Hs HO]
  · isplitr; · iexact HR
    isplitr; · iempintro
    isplitl [Hs]; · iexact Hs
    iexact HO
  iintro ⟨-, Hd, -, HO⟩
  iapply Hk
  isplitl [Hd]; · iexact Hd
  iexact HO

/-! ## Entering the kernel -/

/-- What a device holds of a sub-column when it enters the kernel. -/
def Entry (c : Dev nD) (k : Bool × Fin 4) : sProp 𝕄 :=
  iprop(atPos ER (kcell c (.send k.1 0 k.2)) 0 ∅ 0 ∗ atPos ER (kcell c (.send k.1 1 k.2)) 0 ∅ 0
    ∗ atPos ER (kcell c (.recv k.1 0 k.2)) 0 ∅ 0 ∗ atPos ER (kcell c (.recv k.1 1 k.2)) 0 ∅ 0
    ∗ readerAt ES (c, k.1, 0, k.2) 0 ∗ readerAt ES (c, k.1, 1, k.2) 0
    ∗ sendSlot c k.1 0 k.2 ∗ sendSlot c k.1 1 k.2 ∗ recvSlot c k.1 0 k.2 ∗ recvSlot c k.1 1 k.2 ∗ RgK c k 0)
/-- The same, the receive slots released. -/
def Ready (c : Dev nD) (k : Bool × Fin 4) : sProp 𝕄 :=
  iprop(Free c k 0 ∗ Free c k 1 ∗ In c k 0 ∗ In c k 1 ∗ canK c k.1 k.2 2 ∗ RgK c k 0)

/-- On entering the kernel a device releases its receive slots. -/
theorem enter (c : Dev nD) (k : Bool × Fin 4) : iprop(Recs m κ ιs ∗ Entry c k) ⊢ (|={Set.univ}=> Ready c k : sProp 𝕄) := by
  obtain ⟨r, j⟩ := k
  unfold Entry
  iintro ⟨#HR, Hs0, Hs1, Hr0, Hr1, Hd0, Hd1, Hp0, Hp1, Hq0, Hq1, Hg⟩
  imod (release_op (m := m) (κ := κ) (ιs := ιs) c r j 0 0 rfl) $$ [Hd0 Hq0] with ⟨Hd0, #Hc0⟩
  · isplitr; · iexact HR
    isplitl [Hd0]; · iexact Hd0
    isplitl [Hq0]; · iexact Hq0
    iapply (Recs_reached (ιs := ιs) c (.recv r (par 0) j)); iexact HR
  imod (release_op (m := m) (κ := κ) (ιs := ιs) c r j 1 0 rfl) $$ [Hd1 Hq1] with ⟨Hd1, #Hc1⟩
  · isplitr; · iexact HR
    isplitl [Hd1]; · iexact Hd1
    isplitl [Hq1]; · iexact Hq1
    iapply (Recs_reached (ιs := ιs) c (.recv r (par 1) j)); iexact HR
  imodintro
  unfold Ready
  isplitl [Hs0 Hp0]
  · unfold Free
    isplitl [Hs0]; · iexact Hs0
    isplitr; · iapply (Recs_reached (ιs := ιs) c (.send r (par 0) j)); iexact HR
    iexact Hp0
  isplitl [Hs1 Hp1]
  · unfold Free
    isplitl [Hs1]; · iexact Hs1
    isplitr; · iapply (Recs_reached (ιs := ιs) c (.send r (par 1) j)); iexact HR
    iexact Hp1
  isplitl [Hr0 Hd0]
  · unfold In
    isplitl [Hr0]; · iexact Hr0
    iexact Hd0
  isplitl [Hr1 Hd1]
  · unfold In
    isplitl [Hr1]; · iexact Hr1
    iexact Hd1
  isplitr
  · rw [canK_succ, canK_succ, show canK (F := F) c r j 0 = iprop(emp) from rfl]
    isplitr
    · isplitr; · iempintro
      iexact Hc0
    iexact Hc1
  iexact Hg

/-- The slots of both rings are released for their first two sends. -/
theorem ready_can (c : Dev nD) (r : Bool) : sepL (Ready (F := F) c) keys ⊢ canAll c r 2 := by
  have h : ∀ j : Fin 4, sepL (Ready (F := F) c) keys ⊢ canK c r j 2 := fun j => by
    have h1 : Ready (F := F) c (r, j) ⊢ canK c r j 2 := by
      unfold Ready
      iintro ⟨-, -, -, -, H, -⟩; iexact H
    have hm : ∀ k : Bool × Fin 4, k ∈ keys := by decide
    exact BI.Entails.trans (sepL_elim (hm (r, j))) h1
  unfold canAll
  simp only [sepL]
  iintro H
  ihave H := (keep (h 0)) $$ H
  icases H with ⟨H, #H0⟩
  ihave H := (keep (h 1)) $$ H
  icases H with ⟨H, #H1⟩
  ihave H := (keep (h 2)) $$ H
  icases H with ⟨H, #H2⟩
  ihave H := (keep (h 3)) $$ H
  icases H with ⟨H, #H3⟩
  isplitr; · iexact H0
  isplitr; · iexact H1
  isplitr; · iexact H2
  isplitr; · iexact H3
  iempintro

/-- Once the neighbours' slots are known to be released, the seeds may start. -/
theorem ready_seed (c : Dev nD) : iprop(canAll (dst false c) false 2 ∗ canAll (dst true c) true 2 ∗ sepL (Ready c) keys) ⊢ (sepL (Seed c) keys : sProp 𝕄) := by
  have h : ∀ k : Bool × Fin 4, iprop((canAll (dst false c) false 2 ∗ canAll (dst true c) true 2) ∗ Ready c k) ⊢ (Seed c k : sProp 𝕄) := by
    rintro ⟨r, j⟩
    have hr : iprop(canAll (dst false c) false 2 ∗ canAll (dst true c) true 2) ⊢ (canAll (dst r c) r 2 : sProp 𝕄) := by
      cases r
      · iintro ⟨H, -⟩; iexact H
      · iintro ⟨-, H⟩; iexact H
    unfold Ready Seed
    iintro ⟨#Hc, H1, H2, H3, H4, H5, H6⟩
    isplitl [H1]; · iexact H1
    isplitl [H2]; · iexact H2
    isplitl [H3]; · iexact H3
    isplitl [H4]; · iexact H4
    isplitl [H5]; · iexact H5
    isplitl [H6]; · iexact H6
    iapply hr; iexact Hc
  have hl : ∀ l : List (Bool × Fin 4), iprop((canAll (dst false c) false 2 ∗ canAll (dst true c) true 2) ∗ sepL (Ready c) l) ⊢ (sepL (Seed c) l : sProp 𝕄) := by
    intro l
    induction l with
    | nil => simp only [sepL]; iintro -; iempintro
    | cons k l ih =>
      simp only [sepL]
      iintro ⟨#Hc, Hk, Hl⟩
      isplitl [Hk]
      · iapply (h k)
        isplitr; · iexact Hc
        iexact Hk
      iapply ih
      isplitr; · iexact Hc
      iexact Hl
  iintro ⟨#H0, #H1, H⟩
  iapply (hl keys)
  isplitr
  · isplitr; · iexact H0
    iexact H1
  iexact H

theorem handshake_op (c : Dev nD) (L : List Pay) (hL : ∀ x ∈ L, 1 < x.level ∧ x.level < 40) (Q : PUnit → sProp 𝕄) :
    iprop(Recs m κ ιs ∗ sepL (Ready c) keys ∗ OW c (.bar true :: .bar false :: L) ∗ Pay.supply c (.bar true) ∗ Pay.supply c (.bar false)
        ∗ cred (tallyAt (kcell c .bar) 1 2) ∗ atPos ER (kcell c .bar) 0 ∅ 0)
      ⊢ iprop(((sepL (Seed c) keys ∗ OW c L ∗ atPos ER (kcell c .bar) 1 ∅ 0) -∗ Q ⟨⟩) -∗ runs c (handshake c) Q) := by
  unfold handshake
  simp only [runs_bind, toLeft_eq, toRight_eq]
  iintro ⟨#HR, Hr, HO, Ht, Hf, Hc, Hat⟩ Hk
  ihave H := (keep (ready_can c false)) $$ Hr
  icases H with ⟨Hr, #Hcf⟩
  ihave H := (keep (ready_can c true)) $$ Hr
  icases H with ⟨Hr, #Hct⟩
  iapply (barSignal_op (m := m) (κ := κ) (ιs := ιs) c true (.bar false :: L)) $$ [HO Ht]
  · isplitr; · iexact HR
    isplitl [HO]; · iexact HO
    isplitl [Ht]; · iexact Ht
    iexact Hcf
  iintro HO
  iapply (barSignal_op (m := m) (κ := κ) (ιs := ιs) c false L) $$ [HO Hf]
  · isplitr; · iexact HR
    isplitl [HO]; · iexact HO
    isplitl [Hf]; · iexact Hf
    iexact Hct
  iintro HO
  iapply (barWait_op (m := m) (κ := κ) (ιs := ιs) c L hL Q) $$ [HO Hc Hat]
  · isplitr; · iexact HR
    isplitl [Hc]; · iexact Hc
    isplitl [HO]; · iexact HO
    iexact Hat
  iintro ⟨HO, Hat, #H0, #H1⟩
  iapply Hk
  isplitl [Hr]
  · iapply (ready_seed c)
    isplitr; · iexact H0
    isplitr; · iexact H1
    iexact Hr
  isplitl [HO]; · iexact HO
  iexact Hat

/-! ## The whole body -/

/-- A device reads its own number. -/
theorem runs_device (c : Dev nD) (Q : Dev nD → sProp 𝕄) : Q c ⊢ runs (F := F) c (Prog.lift .deviceId) Q := by
  show Q c ⊢ wp frame (wpE (defs₀ (F := F)) 𝒱₀ (c : Thread nD τ) none) Set.univ (Prog.op .deviceId Prog.ret) Q
  rw [wp_deviceId, wp_ret]
  iintro H; imodintro; iexact H

theorem after_bar : ∀ x ∈ seedPays ++ paysFrom 0, 1 < x.level ∧ x.level < 40 := by decide +kernel

/-- The body, from what a device holds when it enters the kernel to what it holds when it leaves. -/
theorem prog_op (c : Dev nD) (Q : PUnit → sProp 𝕄) :
    iprop(Recs m κ ιs ∗ xH m c ∗ wH m c ∗ sepL (Entry c) keys ∗ atPos ER (kcell c .bar) 0 ∅ 0 ∗ OW c allPays ∗ sepL (Pay.supply c) allPays
        ∗ cred (tallyAt (kcell c .bar) 1 2) ∗ sepL (fun x => cred (Pay.due c x)) (getsFrom 0) ∗ ∃ f, oH c f)
      ⊢ iprop(((xH m c ∗ wH m c ∗ sepL (End c) keys ∗ atPos ER (kcell c .bar) 1 ∅ 0 ∗ OW c [] ∗ oH c (outAt m c)) -∗ Q ⟨⟩) -∗ runs c prog Q) := by
  unfold prog
  rw [runs_bind]
  simp only [runs_bind]
  unfold allPays
  rw [show sepL (Pay.supply (F := F) c) (.bar true :: .bar false :: (seedPays ++ paysFrom 0))
    = iprop(Pay.supply c (.bar true) ∗ Pay.supply c (.bar false) ∗ sepL (Pay.supply c) (seedPays ++ paysFrom 0)) from rfl, sepL_append]
  iintro ⟨#HR, Hx, Hw, He, Hat, HO, ⟨Ht, Hf, Hseed, Hsu⟩, Hcb, Hdu, Ho⟩ Hk
  iapply (runs_device c)
  imod (sepL_fupd keys (enter (m := m) (κ := κ) (ιs := ιs) c)) $$ [He] with Hr
  · isplitr; · iexact HR
    iexact He
  iapply (handshake_op (m := m) (κ := κ) (ιs := ιs) c (seedPays ++ paysFrom 0) after_bar) $$ [Hr HO Ht Hf Hcb Hat]
  · isplitr; · iexact HR
    isplitl [Hr]; · iexact Hr
    isplitl [HO]; · iexact HO
    isplitl [Ht]; · iexact Ht
    isplitl [Hf]; · iexact Hf
    isplitl [Hcb]; · iexact Hcb
    iexact Hat
  iintro ⟨Hs, HO, Hat⟩
  iapply (seeds_op (m := m) (κ := κ) (ιs := ιs) c (paysFrom 0)) $$ [Hx Hw Hs HO Hseed]
  · isplitr; · iexact HR
    isplitl [Hx]; · iexact Hx
    isplitl [Hw]; · iexact Hw
    isplitl [Hs]; · iexact Hs
    isplitl [HO]; · iexact HO
    iexact Hseed
  iintro ⟨Hx, Hw, Hs, HO⟩
  iapply (hops_op (m := m) (κ := κ) (ιs := ιs) c _ 14 0 rfl) $$ [Hx Hw Hs HO Hsu Hdu]
  · isplitr; · iexact HR
    isplitl [Hx]; · iexact Hx
    isplitl [Hw]; · iexact Hw
    isplitl [Hs]; · iexact Hs
    isplitl [HO]; · iexact HO
    isplitl [Hsu]; · iexact Hsu
    iexact Hdu
  iintro ⟨Hx, Hw, Hs, HO, Hdu⟩
  iapply (lastKeys_op (m := m) (κ := κ) (ιs := ιs) c) $$ [Hx Hw Hs HO Hdu Ho]
  · isplitr; · iexact HR
    isplitl [Hx]; · iexact Hx
    isplitl [Hw]; · iexact Hw
    isplitl [Hs]; · iexact Hs
    isplitl [HO]; · iexact HO
    isplitl [Hdu]; · iexact Hdu
    iexact Ho
  iintro ⟨Hx, Hw, Hs, HO, Ho⟩
  iapply (drainKeys_op (m := m) (κ := κ) (ιs := ιs) c Q) $$ [Hs HO]
  · isplitr; · iexact HR
    isplitl [Hs]; · iexact Hs
    iexact HO
  iintro ⟨Hs, HO⟩
  iapply Hk
  isplitl [Hx]; · iexact Hx
  isplitl [Hw]; · iexact Hw
  isplitl [Hs]; · iexact Hs
  isplitl [Hat]; · iexact Hat
  isplitl [HO]; · iexact HO
  iexact Ho

end Cert.KernelIdeal.Rings

end
-- ==== Proof.Deal.lean ====
/-
  What the launch makes of the semaphores and the records, and how it is dealt to the devices.
-/
module

public import proofs.«01_k».proof.Proof.Body

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (κ : GSem nD τ sig → ℕ) (ιs : SK → ℕ)

/-! ## Lists and sets -/

section Lists
variable {A B : Type}

theorem sepL_map (Φ : B → sProp 𝕄) (g : A → B) (l : List A) : sepL Φ (l.map g) = sepL (fun a => Φ (g a)) l := by
  induction l with
  | nil => rfl
  | cons a l ih => show iprop(Φ (g a) ∗ sepL Φ (l.map g)) = iprop(Φ (g a) ∗ _); rw [ih]
theorem sepL_flatMap (Φ : B → sProp 𝕄) (g : A → List B) (l : List A) : sepL Φ (l.flatMap g) = sepL (fun a => sepL Φ (g a)) l := by
  induction l with
  | nil => rfl
  | cons a l ih =>
    rw [List.flatMap_cons, sepL_append, ih]; rfl
/-- A family over a set holds of a list of its members. -/
theorem sepL_take [DecidableEq A] (Φ : A → sProp 𝕄) (l : List A) (hn : l.Nodup) : ∀ S : Finset A, (∀ a ∈ l, a ∈ S) → (bigSep S Φ ⊢ sepL Φ l) := by
  induction l with
  | nil => intro S _; show _ ⊢ iprop(emp); iintro -; iempintro
  | cons a l ih =>
    intro S hs
    have hn' := List.nodup_cons.mp hn
    have h := ih hn'.2 (S.erase a) fun b hb => Finset.mem_erase.mpr ⟨fun e => hn'.1 (e ▸ hb), hs b (List.mem_cons_of_mem _ hb)⟩
    rw [BI.bigSep_erase (hs a List.mem_cons_self)]
    show _ ⊢ iprop(Φ a ∗ sepL Φ l)
    exact BI.sep_mono (BI.Entails.refl _) h
theorem sepL_devs (Φ : Dev nD → A → sProp 𝕄) (l : List A) :
    bigSep Finset.univ (fun c => sepL (Φ c) l) = sepL (fun a => bigSep Finset.univ fun c => Φ c a) l := by
  induction l with
  | nil =>
    show bigSep Finset.univ (fun _ : Dev nD => (iprop(emp) : sProp 𝕄)) = iprop(emp)
    have : ∀ S : Finset (Dev nD), bigSep S (fun _ => (iprop(emp) : sProp 𝕄)) = iprop(emp) := fun S => by
      induction S using Finset.induction_on with
      | empty => rw [bigSep_empty]; rfl
      | insert a S ha ih => rw [bigSep_insert ha, ih]; exact sep_both (P := iprop(emp ∗ emp)) (by iintro ⟨H, -⟩; iexact H) (by iintro -; isplitr <;> iempintro)
    exact this _
  | cons a l ih =>
    show bigSep Finset.univ (fun c => iprop(Φ c a ∗ sepL (Φ c) l)) = iprop((bigSep Finset.univ fun c => Φ c a) ∗ _)
    rw [bigSep_sep', ih]
theorem devs_mono {Φ Ψ : Dev nD → sProp 𝕄} (h : ∀ c, Φ c ⊢ Ψ c) : bigSep Finset.univ Φ ⊢ bigSep Finset.univ Ψ := bigSep_mono fun c _ => h c
/-- A family over pairs, as a family of families. -/
theorem sets_prod [DecidableEq A] [DecidableEq B] (S : Finset A) (T : Finset B) (Φ : A × B → sProp 𝕄) :
    bigSep (S ×ˢ T) Φ = bigSep S fun a => bigSep T fun b => Φ (a, b) := by
  induction S using Finset.induction_on with
  | empty => rw [Finset.empty_product, bigSep_empty, bigSep_empty]
  | insert a S ha ih =>
    have hd : Disjoint (({a} : Finset A) ×ˢ T) (S ×ˢ T) := Finset.disjoint_left.mpr fun x h1 h2 =>
      ha (Finset.mem_singleton.mp (Finset.mem_product.mp h1).1 ▸ (Finset.mem_product.mp h2).1)
    have he : ({a} : Finset A) ×ˢ T = T.map ⟨fun b => (a, b), fun _ _ h => congrArg Prod.snd h⟩ := by
      ext ⟨x, y⟩
      simp only [Finset.mem_product, Finset.mem_singleton, Finset.mem_map, Function.Embedding.coeFn_mk, Prod.mk.injEq]
      constructor
      · rintro ⟨rfl, h⟩; exact ⟨y, h, rfl⟩
      · rintro ⟨b, hb, rfl, rfl⟩; exact ⟨rfl, hb⟩
    rw [Finset.insert_eq, Finset.union_product, bigSep_union hd, he, bigSep_map, ← Finset.insert_eq, bigSep_insert ha, ih]; rfl
/-- What each device holds for its neighbours, they hold. -/
theorem sepL_around (ring : A → Bool) (Φ : A → Dev nD → sProp 𝕄) (l : List A) :
    bigSep Finset.univ (fun c => sepL (fun a => Φ a c) l) = bigSep Finset.univ (fun c => sepL (fun a => Φ a (dst (ring a) c)) l) := by
  rw [sepL_devs, sepL_devs]
  exact congrArg (fun Ψ => sepL Ψ l) (funext fun a => bigSep_univ_equiv (around (ring a)) (Φ a))
end Lists

/-! ## What the launch makes, and for whom -/

/-- A device's semaphores, the sub-columns' together. -/
def posL : List Kd := .bar :: keys.flatMap fun k =>
  [.send k.1 0 k.2, .send k.1 1 k.2, .recv k.1 0 k.2, .recv k.1 1 k.2] ++ (if k.2 = 0 then [.cred k.1] else [])
theorem posL_nodup : posL.Nodup := by decide +kernel
/-- A device's receive slots, likewise. -/
def slotL : List (Bool × Fin 2 × Fin 4) := keys.flatMap fun k => [(k.1, 0, k.2), (k.1, 1, k.2)]
theorem slotL_nodup : slotL.Nodup := by decide +kernel

/-- The token of a payment at the device that it is paid to: semaphore, round, number. -/
def Pay.tok : Pay → Kd × ℕ × ℕ
  | .bar r => (.bar, 0, if r then 0 else 1)
  | .cred r k => (.cred r, 0, k)
  | .send r j h => (.recv r (par h) j, h / 2, 0)
/-- The token of a send at the sender's own semaphore; -/
def Pay.own : Pay → List (Kd × ℕ × ℕ)
  | .send r j h => [(.send r (par h) j, h / 2, 0)]
  | _ => []
/-- and the write of a slot that it is. -/
def Pay.puts : Pay → List ((Bool × Fin 2 × Fin 4) × ℕ)
  | .send r j h => [((r, par h, j), h / 2)]
  | _ => []

/-- A number for each token. -/
def tokCode (t : Kd × ℕ × ℕ) : ℕ := t.1.code + 64 * t.2.1 + 4096 * t.2.2
def toksL : List (Kd × ℕ × ℕ) := allPays.map Pay.tok ++ allPays.flatMap Pay.own
theorem toksL_nodup : toksL.Nodup := List.Nodup.of_map tokCode (by decide +kernel)
theorem toksL_mem : ∀ t ∈ toksL, t.2.1 < 8 ∧ t.2.2 < 13 := by decide +kernel
def putCode (t : (Bool × Fin 2 × Fin 4) × ℕ) : ℕ := t.1.1.toNat + 2 * t.1.2.1.val + 4 * t.1.2.2.val + 16 * t.2
def putsL : List ((Bool × Fin 2 × Fin 4) × ℕ) := allPays.flatMap Pay.puts
theorem putsL_nodup : putsL.Nodup := List.Nodup.of_map putCode (by decide +kernel)
theorem putsL_mem : ∀ t ∈ putsL, t.2 < 8 := by decide +kernel

theorem sep_emps (P : sProp 𝕄) : P = iprop(P ∗ emp ∗ emp) := by
  refine sep_both ?_ ?_
  · iintro H
    isplitl [H]; · iexact H
    isplitr <;> iempintro
  · iintro ⟨H, -⟩; iexact H
/-- A payment's supply is its tokens. -/
theorem supply_eq (c : Dev nD) (x : Pay) : Pay.supply (F := F) c x = iprop(dutyTok ER (kcell (dst x.ring c) x.tok.1) x.tok.2.1 x.tok.2.2
    ∗ sepL (fun t => dutyTok ER (kcell c t.1) t.2.1 t.2.2) x.own
    ∗ sepL (fun t => writeTok ES (dst x.ring c, t.1) (t.2 + 1)) x.puts) := by
  cases x with
  | bar r =>
    show dutyTok ER (kcell (dst r c) .bar) 0 (if r then 0 else 1) = iprop(dutyTok ER (kcell (dst r c) .bar) 0 (if r then 0 else 1) ∗ emp ∗ emp)
    exact sep_emps _
  | cred r k =>
    show dutyTok ER (kcell (dst (!r) c) (.cred r)) 0 k = iprop(dutyTok ER (kcell (dst (!r) c) (.cred r)) 0 k ∗ emp ∗ emp)
    exact sep_emps _
  | send r j h =>
    unfold Pay.supply Pay.own Pay.puts
    rw [sepL_single, sepL_single]; rfl

/-- What a device holds of a sub-column when the kernel starts, its buffers aside. -/
def EntryG (c : Dev nD) (k : Bool × Fin 4) : sProp 𝕄 :=
  iprop((atPos ER (kcell c (.send k.1 0 k.2)) 0 ∅ 0 ∗ atPos ER (kcell c (.send k.1 1 k.2)) 0 ∅ 0
    ∗ atPos ER (kcell c (.recv k.1 0 k.2)) 0 ∅ 0 ∗ atPos ER (kcell c (.recv k.1 1 k.2)) 0 ∅ 0 ∗ RgK c k 0)
    ∗ readerAt ES (c, k.1, 0, k.2) 0 ∗ readerAt ES (c, k.1, 1, k.2) 0)
/-- What a device holds when the kernel starts, beside what all know, its buffers aside. -/
def Lin (c : Dev nD) : sProp 𝕄 := iprop(sepL (EntryG c) keys ∗ atPos ER (kcell c .bar) 0 ∅ 0 ∗ sepL (Pay.supply c) allPays)

theorem ring_start (c : Dev nD) (r : Bool) : (atPos ER (kcell c (.cred r)) 0 ∅ 0 : sProp 𝕄) ⊢ Rg c r 0 := by
  unfold Rg
  rw [if_pos (by decide)]
  iintro H
  iexists ∅
  isplitr; · ipureintro; exact ⟨Finset.empty_subset _, Nat.le_refl _⟩
  isplitl [H]; · iexact H
  rw [bigSep_empty]; iempintro

theorem key_start (c : Dev nD) (k : Bool × Fin 4) :
    sepL (fun kd => (atPos ER (kcell c kd) 0 ∅ 0 : sProp 𝕄)) ([.send k.1 0 k.2, .send k.1 1 k.2, .recv k.1 0 k.2, .recv k.1 1 k.2] ++ (if k.2 = 0 then [.cred k.1] else []))
      ⊢ iprop(atPos ER (kcell c (.send k.1 0 k.2)) 0 ∅ 0 ∗ atPos ER (kcell c (.send k.1 1 k.2)) 0 ∅ 0
    ∗ atPos ER (kcell c (.recv k.1 0 k.2)) 0 ∅ 0 ∗ atPos ER (kcell c (.recv k.1 1 k.2)) 0 ∅ 0 ∗ RgK c k 0) := by
  have hg : sepL (fun kd => (atPos ER (kcell c kd) 0 ∅ 0 : sProp 𝕄)) (if k.2 = 0 then [.cred k.1] else []) ⊢ RgK c k 0 := by
    unfold RgK
    split
    · rw [sepL_single]; exact ring_start c k.1
    · exact BI.Entails.refl _
  rw [sepL_append]
  simp only [sepL]
  iintro ⟨⟨H1, H2, H3, H4, -⟩, H5⟩
  isplitl [H1]; · iexact H1
  isplitl [H2]; · iexact H2
  isplitl [H3]; · iexact H3
  isplitl [H4]; · iexact H4
  iapply hg; iexact H5

/-- A device's positions and readers, by sub-column. -/
theorem entries_start (c : Dev nD) :
    iprop(bigSep Finset.univ (fun k : Kd => (atPos ER (kcell c k) 0 ∅ 0 : sProp 𝕄)) ∗ bigSep Finset.univ (fun s : Bool × Fin 2 × Fin 4 => readerAt ES (c, s) 0))
      ⊢ iprop(sepL (EntryG c) keys ∗ atPos ER (kcell c .bar) 0 ∅ 0) := by
  have h1 := sepL_take (fun k : Kd => (atPos ER (kcell c k) 0 ∅ 0 : sProp 𝕄)) posL posL_nodup Finset.univ fun a _ => Finset.mem_univ a
  have h2 := sepL_take (fun s : Bool × Fin 2 × Fin 4 => (readerAt ES (c, s) 0 : sProp 𝕄)) slotL slotL_nodup Finset.univ fun a _ => Finset.mem_univ a
  have h3 := sepL_mono (F := F) keys fun k _ => key_start (F := F) c k
  have h4 : sepL (fun k : Bool × Fin 4 => sepL (fun s : Bool × Fin 2 × Fin 4 => (readerAt ES (c, s) 0 : sProp 𝕄)) [(k.1, 0, k.2), (k.1, 1, k.2)]) keys
      ⊢ sepL (fun k => iprop(readerAt ES (c, k.1, 0, k.2) 0 ∗ readerAt ES (c, k.1, 1, k.2) 0)) keys := sepL_mono keys fun k _ => by
    simp only [sepL]
    iintro ⟨H1, H2, -⟩
    isplitl [H1]; · iexact H1
    iexact H2
  unfold posL at h1
  unfold slotL at h2
  rw [show ∀ l, sepL (fun k : Kd => (atPos ER (kcell c k) 0 ∅ 0 : sProp 𝕄)) (.bar :: l) = iprop(atPos ER (kcell c .bar) 0 ∅ 0 ∗ sepL (fun k : Kd => atPos ER (kcell c k) 0 ∅ 0) l) from fun _ => rfl,
    sepL_flatMap] at h1
  rw [sepL_flatMap] at h2
  rw [show EntryG (F := F) c = fun k => EntryG c k from rfl]
  unfold EntryG
  rw [sepL_sep]
  iintro ⟨Ha, Hr⟩
  ihave H := h1 $$ Ha
  icases H with ⟨Hb, H⟩
  isplitr [Hb]
  · isplitl [H]
    · iapply h3; iexact H
    iapply h4; iapply h2; iexact Hr
  iexact Hb

/-- The tokens, dealt to the devices that use them. -/
theorem supplies_start :
    iprop(bigSep Finset.univ (fun c : Dev nD => bigSep ((Finset.univ : Finset Kd) ×ˢ (Finset.range 8 ×ˢ Finset.range 13)) (fun t => (dutyTok ER (kcell c t.1) t.2.1 t.2.2 : sProp 𝕄)))
        ∗ bigSep Finset.univ (fun c : Dev nD => bigSep ((Finset.univ : Finset (Bool × Fin 2 × Fin 4)) ×ˢ Finset.range 8) (fun t => writeTok ES (c, t.1) (t.2 + 1))))
      ⊢ bigSep Finset.univ (fun c : Dev nD => sepL (Pay.supply c) allPays) := by
  have h1 : ∀ c : Dev nD, bigSep ((Finset.univ : Finset Kd) ×ˢ (Finset.range 8 ×ˢ Finset.range 13)) (fun t => (dutyTok ER (kcell c t.1) t.2.1 t.2.2 : sProp 𝕄))
      ⊢ iprop(sepL (fun x : Pay => dutyTok ER (kcell c x.tok.1) x.tok.2.1 x.tok.2.2) allPays
        ∗ sepL (fun x : Pay => sepL (fun t => dutyTok ER (kcell c t.1) t.2.1 t.2.2) x.own) allPays) := fun c => by
    have h := sepL_take (fun t : Kd × ℕ × ℕ => (dutyTok ER (kcell c t.1) t.2.1 t.2.2 : sProp 𝕄)) toksL toksL_nodup
      ((Finset.univ : Finset Kd) ×ˢ (Finset.range 8 ×ˢ Finset.range 13)) fun t ht => by
        have := toksL_mem t ht
        exact Finset.mem_product.mpr ⟨Finset.mem_univ _, Finset.mem_product.mpr ⟨Finset.mem_range.mpr this.1, Finset.mem_range.mpr this.2⟩⟩
    unfold toksL at h
    rwa [sepL_append, sepL_map, sepL_flatMap] at h
  have h2 : ∀ c : Dev nD, bigSep ((Finset.univ : Finset (Bool × Fin 2 × Fin 4)) ×ˢ Finset.range 8) (fun t => (writeTok ES (c, t.1) (t.2 + 1) : sProp 𝕄))
      ⊢ sepL (fun x : Pay => sepL (fun t => writeTok ES (c, t.1) (t.2 + 1)) x.puts) allPays := fun c => by
    have h := sepL_take (fun t : (Bool × Fin 2 × Fin 4) × ℕ => (writeTok ES (c, t.1) (t.2 + 1) : sProp 𝕄)) putsL putsL_nodup
      ((Finset.univ : Finset (Bool × Fin 2 × Fin 4)) ×ˢ Finset.range 8) fun t ht =>
        Finset.mem_product.mpr ⟨Finset.mem_univ _, Finset.mem_range.mpr (putsL_mem t ht)⟩
    unfold putsL at h
    rwa [sepL_flatMap] at h
  have e : (fun c : Dev nD => sepL (Pay.supply (F := F) c) allPays)
      = fun c => iprop(sepL (fun x : Pay => dutyTok ER (kcell (dst x.ring c) x.tok.1) x.tok.2.1 x.tok.2.2) allPays
        ∗ sepL (fun x : Pay => sepL (fun t => dutyTok ER (kcell c t.1) t.2.1 t.2.2) x.own) allPays
        ∗ sepL (fun x : Pay => sepL (fun t => writeTok ES (dst x.ring c, t.1) (t.2 + 1)) x.puts) allPays) := funext fun c => by
    rw [← sepL_sep, ← sepL_sep]
    exact congrArg (fun Φ => sepL Φ allPays) (funext fun x => supply_eq c x)
  rw [e, bigSep_sep', bigSep_sep',
    ← sepL_around Pay.ring (fun x d => (dutyTok ER (kcell d x.tok.1) x.tok.2.1 x.tok.2.2 : sProp 𝕄)),
    ← sepL_around Pay.ring (fun x d => sepL (fun t => (writeTok ES (d, t.1) (t.2 + 1) : sProp 𝕄)) x.puts)]
  have g1 := devs_mono h1
  rw [bigSep_sep'] at g1
  have g2 := devs_mono h2
  iintro ⟨H1, H2⟩
  ihave H1 := g1 $$ H1
  icases H1 with ⟨Ha, Hb⟩
  isplitl [Ha]; · iexact Ha
  isplitl [Hb]; · iexact Hb
  iapply g2; iexact H2

/-! ## The launch -/

/-- The semaphores of all devices, -/
def cellS : Finset (GSem nD τ sig) := (Finset.univ : Finset (Dev nD × Kd)).map ⟨fun ck => kcell ck.1 ck.2, kcell_inj⟩
theorem dutyKey_inj : Function.Injective (fun x : (Dev nD × Kd) × ℕ × ℕ => ((kcell x.1.1 x.1.2, x.2.1, x.2.2) : GSem nD τ sig × ℕ × ℕ)) := by
  rintro ⟨a, n⟩ ⟨b, n'⟩ h
  have h1 := kcell_inj (congrArg (fun y : GSem nD τ sig × ℕ × ℕ => y.1) h)
  have h2 : n = n' := congrArg (fun y : GSem nD τ sig × ℕ × ℕ => y.2) h
  subst h1 h2; rfl
/-- and the duties for which there are tokens. -/
def dutyS : Finset (GSem nD τ sig × ℕ × ℕ) :=
  ((Finset.univ : Finset (Dev nD × Kd)) ×ˢ (Finset.range 8 ×ˢ Finset.range 13)).map ⟨_, dutyKey_inj⟩

/-- What all devices know, the levels aside. -/
@[irreducible] def Recs₀ : sProp 𝕄 := iprop(
  bigSep (Finset.univ : Finset (Dev nD × Kd)) (fun ck => cellInv ER (Rd m) (κ (kcell ck.1 ck.2)) (kcell ck.1 ck.2))
  ∗ bigSep (Finset.univ : Finset (Dev nD × Kd)) (fun ck => reached ER (kcell ck.1 ck.2) 0)
  ∗ bigSep (Finset.univ : Finset SK) (fun k => slotInv ES (ιs k) k (slotAt k)))
instance Recs₀_persistent : BI.Persistent (Recs₀ m κ ιs) := by unfold Recs₀; infer_instance

theorem Recs_intro : iprop(Recs₀ m κ ιs ∗ Levs) ⊢ Recs m κ ιs := by
  unfold Recs₀ Recs
  iintro ⟨⟨H1, H2, H3⟩, H4⟩
  isplitl [H1]; · iexact H1
  isplitl [H2]; · iexact H2
  isplitl [H3]; · iexact H3
  iexact H4

/-- What the launch makes a device start from. -/
def G' (c : Dev nD) : sProp 𝕄 := iprop(∃ κ ιs, Recs₀ m κ ιs ∗ Lin c)

theorem to_one (κ : GSem nD τ sig → ℕ) (ιs : SK → ℕ) (c : Dev nD) : iprop(Recs₀ m κ ιs ∗ Lin c) ⊢ G' m c := by
  unfold G'
  iintro ⟨H1, H2⟩
  iexists κ; iexists ιs
  isplitl [H1]; · iexact H1
  iexact H2
theorem to_all (κ : GSem nD τ sig → ℕ) (ιs : SK → ℕ) : iprop(Recs₀ m κ ιs ∗ bigSep Finset.univ (Lin (F := F))) ⊢ bigSep Finset.univ (G' m) :=
  (sep_mono_left (BI.bigSep_of_persistent Finset.univ (Recs₀ m κ ιs))).trans (by
    rw [← bigSep_sep']
    exact devs_mono (to_one m κ ιs))

theorem launch_deal :
    iprop(bigSep Finset.univ (fun ck : Dev nD × Kd => (semVal (kcell ck.1 ck.2) 0 : sProp 𝕄)) ∗ BI.own (ER (launchOf cellS ∅ dutyS)) ∗ BI.own (ES (initSlots Finset.univ 8)))
      ⊢ (|={Set.univ}=> bigSep Finset.univ (G' m) : sProp 𝕄) := by
  have hS : ∀ Φ : GSem nD τ sig → sProp 𝕄, bigSep cellS Φ = bigSep Finset.univ (fun ck : Dev nD × Kd => Φ (kcell ck.1 ck.2)) := fun Φ => by
    unfold cellS; rw [bigSep_map]; rfl
  have hT : bigSep dutyS (fun x => (dutyTok ER x.1 x.2.1 x.2.2 : sProp 𝕄))
      = bigSep Finset.univ (fun c : Dev nD => bigSep ((Finset.univ : Finset Kd) ×ˢ (Finset.range 8 ×ˢ Finset.range 13)) (fun t => (dutyTok ER (kcell c t.1) t.2.1 t.2.2 : sProp 𝕄))) := by
    unfold dutyS
    rw [bigSep_map, sets_prod, bigSep_univ_prod]
    refine bigSep_congr fun c _ => ?_
    rw [sets_prod]; rfl
  have hL : iprop(bigSep Finset.univ (fun ck : Dev nD × Kd => (atPos ER (kcell ck.1 ck.2) 0 ∅ 0 : sProp 𝕄)) ∗ bigSep Finset.univ (fun k : SK => readerAt ES k 0))
      ⊢ iprop(bigSep Finset.univ (fun c : Dev nD => sepL (EntryG c) keys) ∗ bigSep Finset.univ (fun c : Dev nD => atPos ER (kcell c .bar) 0 ∅ 0)) := by
    rw [bigSep_univ_prod, bigSep_univ_prod (α := Dev nD) (β := Bool × Fin 2 × Fin 4), ← bigSep_sep', ← bigSep_sep']
    exact bigSep_mono fun c _ => entries_start c
  have hW : bigSep ((Finset.univ : Finset SK) ×ˢ Finset.range 8) (fun x => (writeTok ES x.1 (x.2 + 1) : sProp 𝕄))
      = bigSep Finset.univ (fun c : Dev nD => bigSep ((Finset.univ : Finset (Bool × Fin 2 × Fin 4)) ×ˢ Finset.range 8) (fun t => writeTok ES (c, t.1) (t.2 + 1))) := by
    rw [sets_prod, bigSep_univ_prod (α := Dev nD) (β := Bool × Fin 2 × Fin 4)]
    exact bigSep_congr fun c _ => by rw [sets_prod]
  iintro ⟨Hv, HR, HS⟩
  imod (Rounds.fund_launch ER (Rd m) (S := cellS) (Sd := ∅) (Finset.disjoint_empty_right _) (fun g hg => absurd hg (Finset.notMem_empty g)) dutyS) $$ [Hv HR] with ⟨%κ, -, HI, Hr, Hat, -, Htok⟩
  · isplitl [Hv]
    · iapply (Entails.of_eq (hS _).symm); iexact Hv
    iexact HR
  imod (slots_init ES (Finset.univ : Finset SK) 8 slotAt) $$ HS with ⟨%ιs, -, Hsl, Hrd, Hwt⟩
  imodintro
  iapply (to_all m κ ιs)
  isplitl [HI Hr Hsl]
  · unfold Recs₀
    isplitl [HI]; · iapply (Entails.of_eq ((congrArg (fun S => bigSep S fun g => cellInv ER (Rd m) (κ g) g) (Finset.union_empty cellS)).trans (hS _))); iexact HI
    isplitl [Hr]; · iapply (Entails.of_eq (hS fun g => reached ER g 0)); iexact Hr
    iexact Hsl
  rw [show Lin (F := F) = fun c => Lin c from rfl]
  unfold Lin
  rw [bigSep_sep', bigSep_sep']
  ihave H := hL $$ [Hat Hrd]
  · isplitl [Hat]; · iapply (Entails.of_eq (hS fun g => atPos ER g 0 ∅ 0)); iexact Hat
    iexact Hrd
  icases H with ⟨H1, H2⟩
  isplitl [H1]; · iexact H1
  isplitl [H2]; · iexact H2
  iapply supplies_start
  isplitl [Htok]
  · iapply (Entails.of_eq hT); iexact Htok
  iapply (Entails.of_eq hW); iexact Hwt

end Cert.KernelIdeal.Rings

end
-- ==== Proof.Ends.lean ====
/-
  The kernel's ends: its buffers cut into pieces and made whole again, its semaphores closed.
-/
module

public import proofs.«01_k».proof.Proof.Deal

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (κ : GSem nD τ sig → ℕ) (ιs : SK → ℕ)

/-! ## A buffer and its pieces -/

section Pieces
variable {m κ ιs}

theorem bigSep_list {A : Type} [DecidableEq A] (Φ : A → sProp 𝕄) (l : List A) (hn : l.Nodup) : bigSep l.toFinset Φ = sepL Φ l := by
  induction l with
  | nil => exact bigSep_empty
  | cons a l ih =>
    have hn' := List.nodup_cons.mp hn
    rw [List.toFinset_cons, bigSep_insert (fun h => hn'.1 (List.mem_toFinset.mp h)), ih hn'.2]; rfl

theorem slotPairs_nodup : slotPairs.Nodup := by decide
theorem slotPairs_univ : (Finset.univ : Finset (Fin 2 × Fin 4)) = slotPairs.toFinset := by decide

/-- A buffer at any contents is its pieces at any contents, if they are apart and cover it. -/
theorem split_buf (ℓ : Loc nD τ sig) (K : Fin 2 × Fin 4 → Finset (Idx ℓ)) (hd : ∀ t t', t ≠ t' → Disjoint (K t) (K t')) (hc : ∀ i, ∃ t, i ∈ K t) :
    (iprop(∃ f, ℓ ↦{fullShare} f) : sProp 𝕄) ⊢ sepL (fun t => slot ℓ (K t)) slotPairs := by
  have hu : (Finset.univ : Finset (Fin 2 × Fin 4)).biUnion K = Finset.univ :=
    Finset.eq_univ_iff_forall.mpr fun i => by
      obtain ⟨t, ht⟩ := hc i; exact Finset.mem_biUnion.mpr ⟨t, Finset.mem_univ t, ht⟩
  have h : ∀ f : Buf (Elt F) ℓ, (ℓ ↦[(Finset.univ : Finset (Fin 2 × Fin 4)).biUnion K]{fullShare} f : sProp 𝕄) ⊢ sepL (fun t => slot ℓ (K t)) slotPairs := fun f => by
    rw [pointsTo_biUnion _ K fun t _ t' _ => hd t t', slotPairs_univ, bigSep_list _ _ slotPairs_nodup]
    exact sepL_mono _ fun t _ => by
      unfold slot
      iintro H; iexists f; iexact H
  rw [hu] at h
  iintro ⟨%f, H⟩
  iapply (h f); iexact H
theorem join_buf (ℓ : Loc nD τ sig) (K : Fin 2 × Fin 4 → Finset (Idx ℓ)) (hd : ∀ t t', t ≠ t' → Disjoint (K t) (K t')) (hc : ∀ i, ∃ t, i ∈ K t) :
    sepL (fun t => slot ℓ (K t)) slotPairs ⊢ (iprop(∃ f, ℓ ↦{fullShare} f) : sProp 𝕄) := by
  have hu : (Finset.univ : Finset (Fin 2 × Fin 4)).biUnion K = Finset.univ :=
    Finset.eq_univ_iff_forall.mpr fun i => by
      obtain ⟨t, ht⟩ := hc i; exact Finset.mem_biUnion.mpr ⟨t, Finset.mem_univ t, ht⟩
  rw [← bigSep_list _ _ slotPairs_nodup, ← slotPairs_univ]
  unfold slot
  iintro H
  ihave H := (BI.bigSep_exists_pi Finset.univ (fun (t : Fin 2 × Fin 4) (f : Buf (Elt F) ℓ) => (ℓ ↦[K t]{fullShare} f : sProp 𝕄))) $$ H
  icases H with ⟨%fs, H⟩
  ihave H := (pointsTo_biUnion_join (q := fullShare) Finset.univ K fs (fs (0, 0)) fun t _ t' _ => hd t t') $$ H
  icases H with ⟨%g, -, H⟩
  iexists g
  iapply (Entails.of_eq (congrArg (fun S => (ℓ ↦[S]{fullShare} g : sProp 𝕄)) hu)); iexact H

/-- An element is in a piece if in its slot and its columns. -/
theorem mem_slotR (s : Fin 2) (j : Fin 4) (i : S2x256x4096.Idx) :
    i ∈ (slotR s j).set ↔ (i 0).val = s.val ∧ 1024 * j.val ≤ (i 2).val ∧ (i 2).val < 1024 * j.val + 1024 := by
  rw [Rect.mem_set_unit]
  have h1 : (i 1).val < 256 := (i 1).isLt
  constructor
  · intro h
    have h0 : s.val ≤ (i 0).val ∧ (i 0).val < s.val + 1 := h 0
    have h2 : 1024 * j.val ≤ (i 2).val ∧ (i 2).val < 1024 * j.val + 1024 := h 2
    exact ⟨by omega, h2⟩
  · rintro ⟨h0, h2⟩ a
    match a with
    | ⟨0, _⟩ => show s.val ≤ (i 0).val ∧ (i 0).val < s.val + 1; omega
    | ⟨1, _⟩ => show 0 ≤ (i 1).val ∧ (i 1).val < 0 + 256; omega
    | ⟨2, _⟩ => exact h2

theorem apart_slotR (t t' : Fin 2 × Fin 4) (h : t ≠ t') : Disjoint (slotR t.1 t.2).set (slotR t'.1 t'.2).set := by
  refine Finset.disjoint_left.mpr fun i h1 h2 => h ?_
  have h1 := (mem_slotR t.1 t.2 i).mp h1
  have h2 := (mem_slotR t'.1 t'.2 i).mp h2
  exact Prod.ext (Fin.ext (by omega)) (Fin.ext (by omega))
theorem cover_slotR (i : S2x256x4096.Idx) : ∃ t : Fin 2 × Fin 4, i ∈ (slotR t.1 t.2).set := by
  have h0 : (i 0).val < 2 := (i 0).isLt
  have h2 : (i 2).val < 4096 := (i 2).isLt
  refine ⟨(⟨(i 0).val, h0⟩, ⟨(i 2).val / 1024, by omega⟩), (mem_slotR _ _ i).mpr ⟨rfl, ?_⟩⟩
  show 1024 * ((i 2).val / 1024) ≤ (i 2).val ∧ (i 2).val < 1024 * ((i 2).val / 1024) + 1024
  omega

/-- What a device has of the buffers that its rings send from and receive into. -/
def bufs (c : Dev nD) : sProp 𝕄 := iprop((∃ f : Buf (Elt F) ((c : Thread nD τ).loc cc0_scratch0), ((c : Thread nD τ).loc cc0_scratch0) ↦{fullShare} f)
  ∗ (∃ f : Buf (Elt F) ((c : Thread nD τ).loc cc0_scratch1), ((c : Thread nD τ).loc cc0_scratch1) ↦{fullShare} f)
  ∗ (∃ f : Buf (Elt F) ((c : Thread nD τ).loc cc0_scratch2), ((c : Thread nD τ).loc cc0_scratch2) ↦{fullShare} f)
  ∗ (∃ f : Buf (Elt F) ((c : Thread nD τ).loc cc0_scratch3), ((c : Thread nD τ).loc cc0_scratch3) ↦{fullShare} f))

/-- A buffer's pieces, as sets of a location's elements. -/
theorem whole_slots (c : Dev nD) (b : Ref sig .tc) (K : Fin 2 × Fin 4 → Finset (Idx ((c : Thread nD τ).loc b)))
    (P : Fin 2 × Fin 4 → sProp 𝕄) (hP : ∀ t, P t = slot ((c : Thread nD τ).loc b) (K t))
    (hd : ∀ t t', t ≠ t' → Disjoint (K t) (K t')) (hc : ∀ i, ∃ t, i ∈ K t) :
    (iprop(∃ f, ((c : Thread nD τ).loc b) ↦{fullShare} f) : sProp 𝕄) = sepL P slotPairs := by
  rw [show P = fun t => slot ((c : Thread nD τ).loc b) (K t) from funext hP]
  exact sep_both (split_buf _ K hd hc) (join_buf _ K hd hc)

theorem send_false (c : Dev nD) : (iprop(∃ f : Buf (Elt F) ((c : Thread nD τ).loc cc0_scratch0), ((c : Thread nD τ).loc cc0_scratch0) ↦{fullShare} f) : sProp 𝕄)
    = sepL (fun t => sendSlot c false t.1 t.2) slotPairs :=
  whole_slots c cc0_scratch0 (fun t => (slotR t.1 t.2).set) _
    (fun t => congrArg (slot ((c : Thread nD τ).loc cc0_scratch0)) ((set_piece (sendB false) t.1 t.2).trans (View.set_slice_whole cc0_scratch0 (slotR t.1 t.2)))) apart_slotR cover_slotR
theorem send_true (c : Dev nD) : (iprop(∃ f : Buf (Elt F) ((c : Thread nD τ).loc cc0_scratch1), ((c : Thread nD τ).loc cc0_scratch1) ↦{fullShare} f) : sProp 𝕄)
    = sepL (fun t => sendSlot c true t.1 t.2) slotPairs :=
  whole_slots c cc0_scratch1 (fun t => (slotR t.1 t.2).set) _
    (fun t => congrArg (slot ((c : Thread nD τ).loc cc0_scratch1)) ((set_piece (sendB true) t.1 t.2).trans (View.set_slice_whole cc0_scratch1 (slotR t.1 t.2)))) apart_slotR cover_slotR
theorem recv_false (c : Dev nD) : (iprop(∃ f : Buf (Elt F) ((c : Thread nD τ).loc cc0_scratch2), ((c : Thread nD τ).loc cc0_scratch2) ↦{fullShare} f) : sProp 𝕄)
    = sepL (fun t => recvSlot c false t.1 t.2) slotPairs :=
  whole_slots c cc0_scratch2 (fun t => (slotR t.1 t.2).set) _
    (fun t => congrArg (slot ((c : Thread nD τ).loc cc0_scratch2)) ((set_piece (recvB false) t.1 t.2).trans (View.set_slice_whole cc0_scratch2 (slotR t.1 t.2)))) apart_slotR cover_slotR
theorem recv_true (c : Dev nD) : (iprop(∃ f : Buf (Elt F) ((c : Thread nD τ).loc cc0_scratch3), ((c : Thread nD τ).loc cc0_scratch3) ↦{fullShare} f) : sProp 𝕄)
    = sepL (fun t => recvSlot c true t.1 t.2) slotPairs :=
  whole_slots c cc0_scratch3 (fun t => (slotR t.1 t.2).set) _
    (fun t => congrArg (slot ((c : Thread nD τ).loc cc0_scratch3)) ((set_piece (recvB true) t.1 t.2).trans (View.set_slice_whole cc0_scratch3 (slotR t.1 t.2)))) apart_slotR cover_slotR

/-- The pieces of a sub-column. -/
def KeyB (c : Dev nD) (k : Bool × Fin 4) : sProp 𝕄 := iprop((sendSlot c k.1 0 k.2 ∗ sendSlot c k.1 1 k.2) ∗ recvSlot c k.1 0 k.2 ∗ recvSlot c k.1 1 k.2)

theorem slotL_perm : (slotPairs.map (fun t => (false, t)) ++ slotPairs.map fun t => (true, t)).Perm slotL := by decide

theorem by_ring (Φ : Bool × Fin 2 × Fin 4 → sProp 𝕄) :
    iprop(sepL (fun t => Φ (false, t)) slotPairs ∗ sepL (fun t => Φ (true, t)) slotPairs) = sepL (fun k : Bool × Fin 4 => iprop(Φ (k.1, 0, k.2) ∗ Φ (k.1, 1, k.2))) keys := by
  rw [← sepL_map Φ (fun t => (false, t)), ← sepL_map Φ (fun t => (true, t)), ← sepL_append, sepL_perm Φ slotL_perm]
  unfold slotL
  rw [sepL_flatMap]
  refine congrArg (fun Ψ => sepL Ψ keys) (funext fun k => ?_)
  show iprop(Φ (k.1, 0, k.2) ∗ Φ (k.1, 1, k.2) ∗ emp) = iprop(Φ (k.1, 0, k.2) ∗ Φ (k.1, 1, k.2))
  exact sep_both (by iintro ⟨H1, H2, -⟩; isplitl [H1]; · iexact H1
                     iexact H2)
    (by iintro ⟨H1, H2⟩; isplitl [H1]; · iexact H1
        isplitl [H2]; · iexact H2
        iempintro)

/-- The buffers are the pieces of the sub-columns. -/
theorem bufs_eq (c : Dev nD) : bufs (F := F) c = sepL (KeyB c) keys := by
  have e : KeyB (F := F) c = fun k => iprop((sendSlot c k.1 0 k.2 ∗ sendSlot c k.1 1 k.2) ∗ (recvSlot c k.1 0 k.2 ∗ recvSlot c k.1 1 k.2)) := rfl
  unfold bufs
  rw [send_false, send_true, recv_false, recv_true, e, sepL_sep, ← by_ring (fun x => sendSlot (F := F) c x.1 x.2.1 x.2.2), ← by_ring (fun x => recvSlot (F := F) c x.1 x.2.1 x.2.2)]
  exact sep_both (by iintro ⟨H1, H2, H3, H4⟩
                     isplitl [H1 H2]
                     · isplitl [H1]; · iexact H1
                       iexact H2
                     isplitl [H3]; · iexact H3
                     iexact H4)
    (by iintro ⟨⟨H1, H2⟩, H3, H4⟩
        isplitl [H1]; · iexact H1
        isplitl [H2]; · iexact H2
        isplitl [H3]; · iexact H3
        iexact H4)

/-- A device enters the kernel with what the launch dealt it and its buffers. -/
theorem entries (c : Dev nD) : iprop(sepL (EntryG c) keys ∗ bufs c) ⊢ sepL (Entry (F := F) c) keys := by
  rw [bufs_eq, ← sepL_sep]
  exact sepL_mono _ fun k _ => by
    unfold EntryG KeyB Entry
    iintro ⟨⟨⟨H1, H2, H3, H4, H5⟩, H6, H7⟩, ⟨H8, H9⟩, HA, HB⟩
    isplitl [H1]; · iexact H1
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [HA]; · iexact HA
    isplitl [HB]; · iexact HB
    iexact H5

/-! ## Closing the semaphores -/

theorem close_cell (c : Dev nD) (k : Kd) (R : ℕ) (hR : ∀ R', R ≤ R' → duties k R' = ∅) :
    iprop(Recs m κ ιs ∗ atPos ER (kcell c k) R ∅ 0) ⊢ (|={Set.univ}=> semVal (kcell c k) 0 : sProp 𝕄) := by
  iintro ⟨#HR, H⟩
  imod (Rounds.cell_close ER (Rd m) (Set.mem_univ (κ (kcell c k))) (fun h => h) (R := R) (fun R' h => (Rd_duties m c k R').trans (hR R' h))) $$ [H] with H
  · isplitr; · iapply (Recs_cell (m := m) (κ := κ) (ιs := ιs) c k); iexact HR
    iexact H
  imodintro; iexact H

theorem no_slot {r : Bool} {s : Fin 2} {j : Fin 4} {R : ℕ} (h : 14 < 2 * R + s.val) : ∀ R', R ≤ R' → duties (.send r s j) R' = ∅ ∧ duties (.recv r s j) R' = ∅ :=
  fun R' hR => ⟨if_neg (by omega), if_neg (by omega)⟩
theorem no_first {k : Kd} (h : k = .bar ∨ ∃ r, k = .cred r) : ∀ R', 1 ≤ R' → duties k R' = ∅ := by
  intro R' hR
  rcases h with rfl | ⟨r, rfl⟩
  · exact if_neg (by omega)
  · exact if_neg (by omega)

/-- A sub-column's semaphores, closed. -/
def KeyZ (c : Dev nD) (k : Bool × Fin 4) : sProp 𝕄 := sepL (fun kd => semVal (kcell c kd) 0)
  ([.send k.1 0 k.2, .send k.1 1 k.2, .recv k.1 0 k.2, .recv k.1 1 k.2] ++ (if k.2 = 0 then [.cred k.1] else []))

theorem end_key (c : Dev nD) (k : Bool × Fin 4) : iprop(Recs m κ ιs ∗ End c k) ⊢ (|={Set.univ}=> (KeyZ c k ∗ KeyB c k) : sProp 𝕄) := by
  obtain ⟨r, j⟩ := k
  have hg : iprop(Recs m κ ιs ∗ RgK c (r, j) 14) ⊢ (|={Set.univ}=> sepL (fun kd => semVal (kcell c kd) 0) (if j = 0 then [.cred r] else []) : sProp 𝕄) := by
    unfold RgK
    by_cases hj : j = 0
    · rw [if_pos hj, if_pos hj, sepL_single]
      unfold Rg
      rw [if_neg (by decide)]
      exact close_cell c (.cred r) 1 (no_first (Or.inr ⟨r, rfl⟩))
    · rw [if_neg hj, if_neg hj]
      iintro ⟨-, H⟩; imodintro
      iapply (Entails.of_eq (show (iprop(emp) : sProp 𝕄) = sepL (fun kd => semVal (kcell c kd) 0) [] from rfl)); iexact H
  unfold End Free Done KeyZ KeyB
  rw [sepL_append]
  simp only [sepL]
  iintro ⟨#HR, ⟨Hs1, -, Hp1⟩, ⟨Hs0, -, Hp0⟩, ⟨Hr1, Hq1⟩, ⟨Hr0, Hq0⟩, Hg⟩
  imod (close_cell (m := m) (κ := κ) (ιs := ιs) c (.send r (par 15) j) 7 (fun R' h => (no_slot (r := r) (j := j) (s := par 15) (R := 7) (by decide) R' h).1)) $$ [Hs1] with Hs1
  · isplitr; · iexact HR
    iexact Hs1
  imod (close_cell (m := m) (κ := κ) (ιs := ιs) c (.send r (par 16) j) 8 (fun R' h => (no_slot (r := r) (j := j) (s := par 16) (R := 8) (by decide) R' h).1)) $$ [Hs0] with Hs0
  · isplitr; · iexact HR
    iexact Hs0
  imod (close_cell (m := m) (κ := κ) (ιs := ιs) c (.recv r (par 13) j) 7 (fun R' h => (no_slot (r := r) (j := j) (s := par 13) (R := 7) (by decide) R' h).2)) $$ [Hr1] with Hr1
  · isplitr; · iexact HR
    iexact Hr1
  imod (close_cell (m := m) (κ := κ) (ιs := ιs) c (.recv r (par 14) j) 8 (fun R' h => (no_slot (r := r) (j := j) (s := par 14) (R := 8) (by decide) R' h).2)) $$ [Hr0] with Hr0
  · isplitr; · iexact HR
    iexact Hr0
  imod hg $$ [Hg] with Hg
  · isplitr; · iexact HR
    iexact Hg
  imodintro
  isplitl [Hs0 Hs1 Hr0 Hr1 Hg]
  · isplitr [Hg]
    · isplitl [Hs0]; · iexact Hs0
      isplitl [Hs1]; · iexact Hs1
      isplitl [Hr0]; · iexact Hr0
      isplitl [Hr1]; · iexact Hr1
      iempintro
    iexact Hg
  isplitl [Hp0 Hp1]
  · isplitl [Hp0]; · iexact Hp0
    iexact Hp1
  isplitl [Hq0]; · iexact Hq0
  iexact Hq1

theorem posL_univ : (Finset.univ : Finset Kd) = posL.toFinset := by decide

/-- At the end a device has all its semaphores at zero, and its buffers. -/
theorem ends (c : Dev nD) : iprop(Recs m κ ιs ∗ sepL (End c) keys ∗ atPos ER (kcell c .bar) 1 ∅ 0)
    ⊢ (|={Set.univ}=> (bigSep Finset.univ (fun k : Kd => semVal (kcell c k) 0) ∗ bufs c) : sProp 𝕄) := by
  have e : bigSep Finset.univ (fun k : Kd => (semVal (kcell c k) 0 : sProp 𝕄)) = iprop(semVal (kcell c .bar) 0 ∗ sepL (KeyZ c) keys) := by
    rw [posL_univ, bigSep_list _ _ posL_nodup]
    unfold posL
    rw [show ∀ l, sepL (fun k : Kd => (semVal (kcell c k) 0 : sProp 𝕄)) (.bar :: l) = iprop(semVal (kcell c .bar) 0 ∗ sepL (fun k : Kd => semVal (kcell c k) 0) l) from fun _ => rfl,
      sepL_flatMap]
    rfl
  rw [e, bufs_eq]
  iintro ⟨#HR, He, Hb⟩
  imod (sepL_fupd keys (end_key (m := m) (κ := κ) (ιs := ιs) c)) $$ [He] with He
  · isplitr; · iexact HR
    iexact He
  imod (close_cell (m := m) (κ := κ) (ιs := ιs) c .bar 1 (no_first (Or.inl rfl))) $$ [Hb] with Hb
  · isplitr; · iexact HR
    iexact Hb
  imodintro
  ihave He := (Entails.of_eq (sepL_sep (KeyZ c) (KeyB c) keys)) $$ He
  icases He with ⟨H1, H2⟩
  isplitl [H1 Hb]
  · isplitl [Hb]; · iexact Hb
    iexact H1
  iexact H2

end Pieces

end Cert.KernelIdeal.Rings

end
-- ==== Proof.Fold.lean ====
/-
  The printed body is the sequence of steps of `Plan`: its three long stretches each against the steps they hold, by
  unfolding, then the whole by reassociating.
-/
module

public import proofs.«01_k».proof.Proof.Plan

@[expose] public section

noncomputable section

namespace Cert.KernelIdeal.Rings

open Cert.KernelIdeal Cert.KernelIdeal.Gen
open Idealize.ShloMosaic Idealize.SL.Sem

variable {F : FTy → Type} [FloatOps F]

/-- The device's word, and the words of its two neighbours, as the body carries them from stretch to stretch. -/
def wordOf (d : Dev nD) : BitVec 32 := Scalar.remsi (Scalar.divsi (Dev.word d) 1#32) 16#32
def wordRight (d : Dev nD) : BitVec 32 := Scalar.remsi (Scalar.addi (wordOf d) 1#32) 16#32
def wordLeft (d : Dev nD) : BitVec 32 := Scalar.remsi (Scalar.subi (Scalar.addi (wordOf d) 16#32) 1#32) 16#32

theorem bindOp {α β : Type} (x : P F α) (f : α → P F β) : x >>= f = Prog.bind x f := rfl

set_option maxRecDepth 100000 in
set_option maxHeartbeats 4000000 in
/-- The first stretch: the handshake, the seeds, the hops 0 to 3, three steps of hop 4 and the rows of the fourth. -/
theorem part195_eq : k0_part195 (F := F) xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 = (do
      let d ← Prog.lift .deviceId
      handshake d
      each keys (seedStep d)
      each [0, 1, 2, 3] fun h => each keys (hopStep d h)
      each [(false, 0), (true, 0), (false, 1)] (hopStep d 4)
      let x ← loadX (rowsOff true d 4) (rowsOff_inb true d 4)
      pure ⟨d, wordOf d, wordRight d, wordLeft d, castX x⟩) := by
  rw [k0_part195_eq_skeleton]
  simp only [k0_part195_skel, each, keys, bindOp, Prog.bind_assoc, Prog.pure_eq_ret, Prog.bind_ret]
  rfl

set_option maxRecDepth 100000 in
set_option maxHeartbeats 4000000 in
/-- The second stretch: the rest of hop 4, the hops 5 to 8, and hop 9's first step up to the arrival. -/
theorem part196_eq (d : Dev nD) (v2 v4 v7 : BitVec 32) (x : FVec F S256x256 .f32) : k0_part196 (F := F) xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 d v2 v4 v7 x = (do
      hopFrom d 4 (true, 1) x
      each [(false, 2), (true, 2), (false, 3), (true, 3)] (hopStep d 4)
      each [5, 6, 7, 8] fun h => each keys (hopStep d h)
      let x ← loadX (rowsOff false d 9) (rowsOff_inb false d 9)
      let w ← loadW false 0
      waitRecv false (par 9) 0
      pure (prod (castX x) (castW w))) := by
  rw [k0_part196_eq_skeleton]
  simp only [k0_part196_skel, each, keys, bindOp, Prog.bind_assoc, Prog.pure_eq_ret, Prog.bind_ret]
  rfl

set_option maxRecDepth 100000 in
set_option maxHeartbeats 4000000 in
/-- The third stretch, and whatever follows it: the rest of hop 9, the hops 10 to 12, and six steps of hop 13. -/
theorem part197_eq (d : Dev nD) (v2 v4 v7 : BitVec 32) (p : FVec F S256x1024 .f32) (g : P F PUnit) :
    (k0_part197 (F := F) xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 d v2 v4 v7 p).bind (fun _ => g) = (do
      hopRest d 9 (false, 0) p
      each [(true, 0), (false, 1), (true, 1), (false, 2), (true, 2), (false, 3), (true, 3)] (hopStep d 9)
      each [10, 11, 12] fun h => each keys (hopStep d h)
      each [(false, 0), (true, 0), (false, 1), (true, 1), (false, 2), (true, 2)] (hopStep d 13)
      g) := by
  rw [k0_part197_eq_skeleton]
  simp only [k0_part197_skel, hopStep, hopFrom, hopRest, each, keys, bindOp, Prog.bind_assoc, Prog.pure_eq_ret, Prog.bind_ret]
  rfl

set_option maxRecDepth 100000 in
set_option maxHeartbeats 4000000 in
/-- The fourth stretch: the last two steps of hop 13, the last hop, and the drain but for its last wait. -/
theorem part198_eq (d : Dev nD) (v2 v4 v7 v : BitVec 32) : k0_part198 (F := F) xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 d v2 v4 v7 v = (do
      each [(false, 3), (true, 3)] (hopStep d 13)
      each keys (lastStep d)
      each [(false, 0), (true, 0), (false, 1), (true, 1), (false, 2), (true, 2), (false, 3)] drainStep
      waitSent true 1 3) := by
  rw [k0_part198_eq_skeleton]
  simp only [k0_part198_skel, each, keys, bindOp, Prog.bind_assoc, Prog.pure_eq_ret, Prog.bind_ret]
  rfl

end Cert.KernelIdeal.Rings

end
-- ==== Proof.Whole.lean ====
/-
  The printed body is the sequence of steps: its four stretches, put together.
-/
module

public import proofs.«01_k».proof.Proof.Fold

@[expose] public section

noncomputable section

namespace Cert.KernelIdeal.Rings

open Cert.KernelIdeal Cert.KernelIdeal.Gen
open Idealize.ShloMosaic Idealize.SL.Sem

variable {F : FTy → Type} [FloatOps F]

theorem bindA {α β γ : Type} (p : P F α) (f : α → P F β) (g : β → P F γ) : (p.bind f).bind g = p.bind fun x => (f x).bind g := Prog.bind_assoc p f g
theorem bindR {α β : Type} (a : α) (f : α → P F β) : (Prog.ret a : P F α).bind f = f a := rfl
theorem bindP (p : P F PUnit) : (p.bind fun _ => Prog.ret PUnit.unit) = p := Prog.bind_pure p

theorem each_append {α : Type} (l l' : List α) (f : α → P F PUnit) : each (l ++ l') f = (each l f).bind fun _ => each l' f := by
  induction l with
  | nil => rfl
  | cons a l ih =>
    show (f a).bind (fun _ => each (l ++ l') f) = ((f a).bind fun _ => each l f).bind fun _ => each l' f
    rw [ih]; exact (Prog.bind_assoc _ _ _).symm
theorem each_cons {α : Type} (a : α) (l : List α) (f : α → P F PUnit) : each (a :: l) f = (f a).bind fun _ => each l f := rfl
theorem each_one {α : Type} (a : α) (f : α → P F PUnit) : each [a] f = f a := by
  show (f a).bind (fun _ => Prog.ret ⟨⟩) = f a
  exact Prog.bind_pure _

/-- The hops, split where the printed body is. -/
theorem hops_split : hops = [0, 1, 2, 3] ++ 4 :: ([5, 6, 7, 8] ++ 9 :: ([10, 11, 12] ++ [13])) := rfl
theorem keys_4 : keys = [(false, 0), (true, 0), (false, 1)] ++ (true, 1) :: [(false, 2), (true, 2), (false, 3), (true, 3)] := rfl
theorem keys_9 : keys = (false, 0) :: [(true, 0), (false, 1), (true, 1), (false, 2), (true, 2), (false, 3), (true, 3)] := rfl
theorem keys_13 : keys = [(false, 0), (true, 0), (false, 1), (true, 1), (false, 2), (true, 2)] ++ [(false, 3), (true, 3)] := rfl
theorem keys_end : keys = [(false, 0), (true, 0), (false, 1), (true, 1), (false, 2), (true, 2), (false, 3)] ++ [(true, 3)] := rfl

theorem hop4_split (d : Dev nD) : each (F := F) keys (hopStep d 4)
    = (each [(false, 0), (true, 0), (false, 1)] (hopStep d 4)).bind fun _ => (loadX (rowsOff true d 4) (rowsOff_inb true d 4)).bind fun x =>
        (hopFrom d 4 (true, 1) (castX x)).bind fun _ => each [(false, 2), (true, 2), (false, 3), (true, 3)] (hopStep d 4) := by
  rw [keys_4, each_append, each_cons]
  show _ = Prog.bind _ _
  congr 1
theorem hop9_split (d : Dev nD) : each (F := F) keys (hopStep d 9)
    = (loadX (rowsOff false d 9) (rowsOff_inb false d 9)).bind fun x => (loadW false 0).bind fun w => (waitRecv false (par 9) 0).bind fun _ =>
        (hopRest d 9 (false, 0) (prod (castX x) (castW w))).bind fun _ =>
          each [(true, 0), (false, 1), (true, 1), (false, 2), (true, 2), (false, 3), (true, 3)] (hopStep d 9) := by
  rw [keys_9, each_cons]
  simp only [hopStep, hopFrom, bindOp, bindA]
  rfl
theorem hop13_split (d : Dev nD) : each (F := F) keys (hopStep d 13)
    = (each [(false, 0), (true, 0), (false, 1), (true, 1), (false, 2), (true, 2)] (hopStep d 13)).bind fun _ => each [(false, 3), (true, 3)] (hopStep d 13) := by
  rw [keys_13, each_append]
theorem drain_split : each (F := F) keys drainStep
    = (each [(false, 0), (true, 0), (false, 1), (true, 1), (false, 2), (true, 2), (false, 3)] drainStep).bind fun _ =>
        (waitSent true 1 3).bind fun _ => waitSent true 0 3 := by
  rw [keys_end, each_append, each_one]; rfl

/-- All hops, split where the printed body is. -/
theorem hops_eq (d : Dev nD) : (each (F := F) hops fun h => each keys (hopStep d h))
    = (each [0, 1, 2, 3] fun h => each keys (hopStep d h)).bind fun _ => (each keys (hopStep d 4)).bind fun _ =>
        (each [5, 6, 7, 8] fun h => each keys (hopStep d h)).bind fun _ => (each keys (hopStep d 9)).bind fun _ =>
          (each [10, 11, 12] fun h => each keys (hopStep d h)).bind fun _ => each keys (hopStep d 13) := by
  rw [hops_split]; simp only [each_append, each_cons, each_one, bindA]
  rfl

/-- The printed body, as its four stretches and the last wait. -/
theorem stretches : cc0_body_skel (F := F) xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9
    = (k0_part195 (F := F) xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9).bind fun t => (k0_part196 (F := F) xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 t.1 t.2.1 t.2.2.1 t.2.2.2.1 t.2.2.2.2).bind fun p =>
        (k0_part197 (F := F) xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 t.1 t.2.1 t.2.2.1 t.2.2.2.1 p).bind fun v =>
          (k0_part198 (F := F) xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 t.1 t.2.1 t.2.2.1 t.2.2.2.1 v).bind fun _ => (waitSent true 0 3).bind fun _ => Prog.ret ⟨⟩ := rfl

/-- The steps, with what follows. -/
theorem prog_eq : prog (F := F) = (Prog.lift .deviceId).bind fun d => (handshake d).bind fun _ => (each keys (seedStep d)).bind fun _ =>
    (each hops fun h => each keys (hopStep d h)).bind fun _ => (each keys (lastStep d)).bind fun _ => each keys drainStep := rfl

section
attribute [local irreducible] seedStep hopStep lastStep drainStep hopFrom hopRest loadX loadW waitRecv waitSent handshake each k0_part195 k0_part196 k0_part197 k0_part198

/-- The printed body is the sequence of steps. -/
theorem body_eq : cc0_body (F := F) xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 = prog := by
  rw [cc0_body_eq_skeleton, stretches, prog_eq, part195_eq]
  simp only [bindOp, bindA, bindR, Prog.pure_eq_ret]
  refine congrArg _ (funext fun d => ?_)
  rw [hops_eq, hop4_split, hop9_split, hop13_split, drain_split]
  simp only [part196_eq, bindOp, bindA, bindR, Prog.pure_eq_ret]
  simp only [part198_eq, bindOp, bindA, bindR, bindP, Prog.pure_eq_ret]
  simp only [part197_eq, bindOp, bindA, bindR, bindP, Prog.pure_eq_ret]

end

end Cert.KernelIdeal.Rings

end
-- ==== Proof.Run.lean ====
/-
  The launch: each device starts from its part of the deal, the kernel's one point runs its body, and at the end every
  device holds its result and every semaphore is at zero.
-/
module

public import proofs.«01_k».proof.Proof.Ends
public import proofs.«01_k».proof.Proof.Whole
public import Idealize.ShloMosaic.Lib.Pipeline.CollectiveSegs

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (κ : GSem nD τ sig → ℕ) (ιs : SK → ℕ)

/-! ## What the kernel starts from and ends with -/

/-- The device's part of the deal, and the units due to it. -/
def Start (c : Dev nD) : sProp 𝕄 := iprop(G' m c ∗ (cred (tallyAt (kcell c .bar) 1 2) ∗ sepL (fun x => cred (Pay.due c x)) (getsFrom 0)) ∗ Levs)

def Φ₀ (c : Dev nD) : sProp 𝕄 := iprop(Start m c ∗ bufs c)
def Φ₁ (c : Dev nD) : sProp 𝕄 := iprop(bigSep Finset.univ (fun k : Kd => semVal (kcell c k) 0) ∗ bufs c)

/-- What the launch's theorem asks of the kernel's one point: `x` and `w` stay, the result is written. -/
def dats (_ : Fin 1) (c : Dev nD) : Dat τ (Elt F) ℕ ℕ UU ℕ cfg0 c where
  A w := m ((cfg0.win w).arr.view.loc (c : Thread nD τ))
  after w _ := match w with
    | ⟨0, _⟩ => xAt m c
    | ⟨1, _⟩ => wAt m c
    | ⟨2, _⟩ => outAt m c
  Φ t := match t with
    | ⟨0, _⟩ => Φ₀ m c
    | ⟨_ + 1, _⟩ => Φ₁ c
  q _ := fullShare
  owed t := match t with
    | ⟨0, _⟩ => owedL c allPays
    | ⟨_ + 1, _⟩ => 0

theorem owns_whole (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt 0 t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def bodyPost (c : Dev nD) : sProp 𝕄 :=
  iprop(Φ₁ c ∗ (dats m 0 c).owesAt 0 t0_0.succ ∗ stg c cc0_stg0_0 (xAt m c) ∗ stg c cc0_stg1_0 (wAt m c) ∗ stg c cc0_stg2_0 (outAt m c))

/-- An update after a program is the program's. -/
theorem runs_fupd (c : Dev nD) {α : Type} (p : P F α) (Q : α → sProp 𝕄) : runs c p (fun a => iprop(|={Set.univ}=> Q a)) ⊢ runs c p Q :=
  Sem.wp_fupd frame (wpE (defs₀ (F := F)) 𝒱₀ (c : Thread nD τ) none) Set.univ p Q

/-- The body, from the point's start to its end. -/
theorem sound_body (c : Dev nD) : bodyPre m c ⊢ runs c (cc0_body (F := F) xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9) (fun _ => bodyPost m c) := by
  rw [body_eq]
  refine (show bodyPre m c ⊢ runs c prog (fun _ => iprop(|={Set.univ}=> bodyPost m c)) from ?_).trans (runs_fupd c prog (fun _ => bodyPost m c))
  unfold bodyPre Φ₀ Start G' Lin
  iintro ⟨⟨⟨⟨%κ, %ιs, #HR₀, He, Hat, Hsu⟩, ⟨Hcb, Hdu⟩, #HL⟩, Hb⟩, ⟨%W, -, HO⟩, ⟨%dx, %fx, %hx, Hx⟩, ⟨%dw, %fw, %hw, Hw⟩, ⟨%dO, %fo, %ho, Ho⟩⟩
  subst hx; subst hw
  ihave #HR := (Recs_intro m κ ιs) $$ []
  · isplitr; · iexact HR₀
    iexact HL
  ihave He := (entries (F := F) c) $$ [He Hb]
  · isplitl [He]; · iexact He
    iexact Hb
  iapply (prog_op (m := m) (κ := κ) (ιs := ιs) c (fun _ => iprop(|={Set.univ}=> bodyPost m c))) $$ [Hx Hw He Hat HO Hsu Hcb Hdu Ho]
  · isplitr; · iexact HR
    isplitl [Hx]; · unfold xH; iexact Hx
    isplitl [Hw]; · unfold wH; iexact Hw
    isplitl [He]; · iexact He
    isplitl [Hat]; · iexact Hat
    isplitl [HO]; · unfold OW; iexists W; iexact HO
    isplitl [Hsu]; · iexact Hsu
    isplitl [Hcb]; · iexact Hcb
    isplitl [Hdu]; · iexact Hdu
    iexists fo; unfold oH; iexact Ho
  iintro ⟨Hx, Hw, He, Hat, HO, Ho⟩
  imod (ends (m := m) (κ := κ) (ιs := ιs) c) $$ [He Hat] with ⟨Hz, Hb⟩
  · isplitr; · iexact HR
    isplitl [He]; · iexact He
    iexact Hat
  imodintro
  unfold bodyPost Φ₁
  isplitl [Hz Hb]
  · isplitl [Hz]; · iexact Hz
    iexact Hb
  isplitl [HO]
  · unfold OW
    icases HO with ⟨%W', HO⟩
    iexists W'
    isplitr; · ipureintro; exact fun _ _ => Or.inl trivial
    iexact HO
  isplitl [Hx]
  · iexists _; isplitr; · (ipureintro; rfl)
    unfold xH; iexact Hx
  isplitl [Hw]
  · iexists _; isplitr; · (ipureintro; rfl)
    unfold wH; iexact Hw
  iexists _; isplitr; · (ipureintro; rfl)
  unfold oH; iexact Ho

/-- The point runs the body on the staging buffers. -/
theorem point_eq : (defs₀ (F := F)) Proc.tc 0 (t0_0, cfg0.slots t0_0) = cc0_body (F := F) xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 := by
  have h0 : win0_0.stage (cfg0.slots t0_0 0) = xM := rfl
  have h1 : win0_1.stage (cfg0.slots t0_0 1) = wM := rfl
  have h2 : win0_2.stage (cfg0.slots t0_0 2) = oM := rfl
  unfold defs₀ Defs.onTc
  dsimp only

set_option maxRecDepth 1000000 in
/-- What the launch's theorem asks of the body. -/
theorem body_obligation (c : Dev nD) : BodyObligation (dats (F := F) m 0 c) (defs₀ (F := F)) 𝒱₀ 0 Set.univ := fun t => by
  rw [fin_N0 t]
  rw [bigSep_W0, bigSep_W0]
  simp only [owns_whole]
  rw [point_eq]
  have e0 : (dats m 0 c).Φ t0_0.castSucc = Φ₀ m c := rfl
  have e1 : (dats m 0 c).Φ t0_0.succ = Φ₁ c := rfl
  have e2 : (dats m 0 c).after 0 t0_0 = xAt m c := rfl
  have e3 : (dats m 0 c).after 1 t0_0 = wAt m c := rfl
  have e4 : (dats m 0 c).after 2 t0_0 = outAt m c := rfl
  rw [e0, e1, e2, e3, e4]
  have h := sound_body m c
  unfold bodyPre bodyPost stg at h
  exact h

/-! ## The semaphores -/

/-- A kernel's own semaphores: all but the barrier. -/
abbrev Own : Type := {k : Kd // k ≠ .bar}
abbrev osem : Own → SemLoc sig := fun k => k.1.sem
theorem ownSemFacts : Pipeline.OwnSemFacts cfg0.spec osem := by decide +kernel

theorem bar_alone (c : Dev nD) : (unscopedSems0 c : sProp 𝕄) = semVal (kcell c .bar) 0 := by
  unfold unscopedSems0
  rw [bigSep_eq_bigSepL_of_eq [Kd.sem .bar] (by decide) (by decide)]
  rfl

/-- The kernel's own semaphores and the barrier are all that it uses. -/
theorem sems_eq (c : Dev nD) :
    iprop(unscopedSems0 c ∗ Pipeline.ownSems0 (Ix := ℕ) (Name := ℕ) (U := UU) (Lvl := ℕ) (Val := Elt F) (τ := τ) osem c)
      = (bigSep Finset.univ fun k : Kd => semVal (kcell c k) 0 : sProp 𝕄) := by
  rw [bar_alone]
  rw [BI.bigSep_univ_at _ Kd.bar]
  exact congrArg (fun X => iprop(semVal (kcell c .bar) 0 ∗ X)) (BI.bigSep_subtype_ne Kd.bar fun k : Kd => (semVal (kcell c k) 0 : sProp 𝕄))

/-! ## The credits -/

theorem due_around (x : Pay) (c : Dev nD) : (Pipeline.launchCred (fun d => x.owed d) c : sProp 𝕄) ⊢ cred (Pay.due c x) :=
  Pipeline.launchCred_tallyAt x.kind.sem (dst x.ring) (dst (!x.ring)) (fun c => dst_dst x.ring c) (fun c => dst_dst' x.ring c) x.level (amount x.kind) c
theorem dues (l : List Pay) (c : Dev nD) : (Pipeline.launchCred (fun d => owedL d l) c : sProp 𝕄) ⊢ sepL (fun x => cred (Pay.due c x)) l := by
  induction l with
  | nil => exact Entails.of_eq (Pipeline.launchCred_zero c)
  | cons x l ih =>
    refine (Entails.of_eq (Pipeline.launchCred_add (fun d => owedL d l) (fun d => x.owed d) c)).trans ?_
    show _ ⊢ iprop(cred (Pay.due c x) ∗ sepL (fun x => cred (Pay.due c x)) l)
    iintro ⟨H1, H2⟩
    isplitl [H2]
    · iapply (due_around x c); iexact H2
    iapply ih; iexact H1

/-- The units that a device is owed at the launch: two at its barrier, and those of the transfers and credits to come. -/
theorem creds (c : Dev nD) : (Pipeline.launchCred (fun d => owedL d allPays) c : sProp 𝕄)
    ⊢ iprop(cred (tallyAt (kcell c .bar) 1 2) ∗ sepL (fun x => cred (Pay.due c x)) (getsFrom 0)) := by
  refine (dues allPays c).trans ?_
  rw [sepL_perm _ pays_perm]
  show iprop(cred (tallyAt (kcell c .bar) 1 1) ∗ cred (tallyAt (kcell c .bar) 1 1) ∗ sepL (fun x => cred (Pay.due c x)) (getsFrom 0)) ⊢ _
  have e : (tallyAt (kcell c .bar) 1 2 : CellTallies nD τ sig ℕ) = tallyAt (kcell c .bar) 1 1 + tallyAt (kcell c .bar) 1 1 := (tallyAt_add (kcell c .bar) (1 : ℕ) 1 1).symm
  rw [e]
  iintro ⟨H1, H2, H3⟩
  isplitl [H1 H2]
  · iapply (cred_add _ _).2
    isplitl [H1]; · iexact H1
    iexact H2
  iexact H3

/-! ## The launch -/

/-- The records at the start. -/
def u₀ : UU := ((initOf (Pipeline.cells cfgs cellOf_inj) (Pipeline.launchToks cfgs cellOf_inj), (launchOf cellS ∅ dutyS, initSlots Finset.univ 8)) : UR sig nD τ × (UB × USlots SK))

/-- The protocol's part of them, in one device's hands. -/
def G (c : Dev nD) : sProp 𝕄 := if c = 0 then iprop(BI.own (ER (launchOf cellS ∅ dutyS)) ∗ BI.own (ES (initSlots Finset.univ 8))) else iprop(emp)

theorem all_G : (bigSep Finset.univ (G (F := F)) : sProp 𝕄) = iprop(BI.own (ER (launchOf cellS ∅ dutyS)) ∗ BI.own (ES (initSlots Finset.univ 8))) := by
  rw [BI.bigSep_univ_at _ (0 : Dev nD), BI.bigSep_congr (Ψ := fun _ => (BI.emp : sProp 𝕄)) fun c hc => show G c = BI.emp from if_neg (Finset.ne_of_mem_erase hc),
    BI.bigSep_emp_const, show G (F := F) 0 = iprop(BI.own (ER (launchOf cellS ∅ dutyS)) ∗ BI.own (ES (initSlots Finset.univ 8))) from if_pos rfl]
  exact sep_both (by iintro ⟨H, -⟩; iexact H) (by iintro H; isplitl; · iexact H
                                                  iempintro)

theorem split_records : (ownU u₀ : sProp 𝕄)
    ⊢ iprop(BI.own (EP (initOf (Pipeline.cells cfgs cellOf_inj) (Pipeline.launchToks cfgs cellOf_inj))) ∗ bigSep Finset.univ (G (F := F))) := by
  rw [all_G]
  refine (own_pair_emb (upU (F := F)) (A := UR sig nD τ) (B := UB × USlots SK) _ _).trans ?_
  refine sep_mono_right ?_
  exact own_pair_emb ((Emb.inr : Emb (UB × USlots SK) (UR sig nD τ × (UB × USlots SK))).trans upU) (A := UB) (B := USlots SK) _ _

/-- All devices' semaphores and the records make what each device starts from. -/
theorem glob : (bigSep Finset.univ fun c => iprop(Pipeline.ownSems0 (Ix := ℕ) (Name := ℕ) (U := UU) (Lvl := ℕ) (Val := Elt F) (τ := τ) osem c ∗ unscopedSems0 c ∗ G c) : sProp 𝕄)
    ⊢ |={Set.univ}=> bigSep Finset.univ (G' m) := by
  refine BI.Entails.trans ?_ (launch_deal m)
  rw [← all_G, bigSep_univ_prod (fun ck : Dev nD × Kd => (semVal (kcell ck.1 ck.2) 0 : sProp 𝕄)), ← bigSep_sep']
  refine devs_mono fun c => ?_
  rw [← sems_eq]
  iintro ⟨H1, H2, H3⟩
  isplitl [H1 H2]
  · isplitl [H2]; · iexact H2
    iexact H1
  iexact H3

theorem start_intro (ρ : Dev nD → PrngReg) (c : Dev nD) :
    iprop(Pipeline.unscopedRestP Pipeline.Prefetch.none cfg0.spec c (fun b => m ((c : Thread nD τ).loc b)) ∗ levAts Lv lv
        ∗ Pipeline.launchCred (fun d => owedL d allPays) c ∗ prngReg c (ρ c) ∗ G' m c)
      ⊢ |={Set.univ}=> iprop(Start m c ∗ emp) := by
  iintro ⟨-, Hlev, Hcr, -, HG⟩
  ihave Hc := (creds (F := F) c) $$ Hcr
  imodintro
  unfold Start
  isplitl
  · isplitl [HG]; · iexact HG
    isplitl [Hc]; · iexact Hc
    rw [Levs_eq]; iexact Hlev
  · iempintro

theorem phi0_intro (c : Dev nD) :
    iprop(Start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufs
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ bufs
  rw [← sems_eq]
  iintro ⟨⟨H1, H2⟩, Hr⟩
  isplitl [H1]; · iexact H1
  isplitl [H2]; · iexact H2
  iexact Hr

theorem above : ∀ x ∈ allPays, 0 < x.level ∧ x.level < 40 := by decide +kernel

/-- While the staging copies are waited for, all that the kernel will pay lies above them. -/
theorem waits (c : Dev nD) : (levAts Lv lv : sProp 𝕄) ⊢ Pipeline.cellsWaits cfgs (dats m) 0 0 c :=
  Pipeline.cellsWaits_intro cfgs (dats m) 0 0 c fun w s t => by
    rw [← Levs_eq]
    rcases t with ⟨_ | _, ht⟩
    · exact may_wait c _ 0 (by decide) allPays above
    · exact may_wait c _ 0 (by decide) [] (fun x hx => absurd hx List.not_mem_nil)

/-! ## The run -/

/-- A window's array at the end. -/
def finalA (c : Dev nD) (w : Fin cfg0.W) : Buf (Elt F) ((cfg0.win w).arr.view.loc (c : Thread nD τ)) := (dats m 0 c).arrAt w cfg0.N

set_option maxRecDepth 1000000 in
/-- From any memory, with every semaphore at zero, the sixteen devices run to the end; the arrays end as the points leave
    them, and every semaphore is at zero. -/
theorem run_main (ρ : Dev nD → PrngReg) : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0)
    (hshare := fun c w => by unfold Dat.share; split <;> rfl)
    (hdistinct := winFacts0.arr_inj)
    (O₀ := fun d => owedL d allPays) (howed₀ := fun _ => rfl) (howedN := fun _ => rfl)
    (L := Lv) (lv := lv) (hL := Lv_of_ne) (hwaits := waits m)
    (G := G) (G' := G' m) (u₀ := u₀)
    (hu₀ := (split_records (F := F)).trans fupd_intro)
    (hglob := glob m)
    (hA := fun _ _ => rfl) (hpf := fun _ k => k.elim0)
    (X := Start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The arguments end as they began. -/
theorem finalA_x (c : Dev nD) : finalA m c (0 : Fin 3) = m (win0_0.arr.view.loc (c : Thread nD τ)) := (dats (F := F) m 0 c).arrAt_in (0 : Fin 3) rfl _
theorem finalA_w (c : Dev nD) : finalA m c (1 : Fin 3) = m (win0_1.arr.view.loc (c : Thread nD τ)) := (dats (F := F) m 0 c).arrAt_in (1 : Fin 3) rfl _

/-- What the claim of quiescence states, over any floats. -/
theorem quiet (ρ : Dev nD → PrngReg) : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c 0).trans (finalA_x m c), (h.1 c 1).trans (finalA_w m c)⟩, h.2⟩) (run_main m ρ)

end Cert.KernelIdeal.Rings

end
-- ==== Proof.Frames.lean ====
/-
  Every program runs to its end, leaves its arguments unchanged and every semaphore counter at zero.
-/
module

public import proofs.«01_k».proof.Defs
public import proofs.«01_k».proof.Proof.Run
public import proofs.«01_k».proof.Proof.Bits.Run
public import proofs.«01_k».proof.Proof.Gen.ReferenceIdeal.Run

@[expose] public section

noncomputable section

namespace Cert.Proof

open Idealize.ShloMosaic Idealize.SL.Sem

/-- The kernel over machine words. -/
theorem frame_kernel : Cert.quiescent_Kernel := fun m g _ => Cert.Kernel.Rings.quiet m g

/-- The kernel over the extended reals. -/
theorem frame_ideal : Cert.quiescent_KernelIdeal := fun m g _ => Cert.KernelIdeal.Rings.quiet m g

/-- The reference over the extended reals. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.Tables.lean ====
/-
  Where each partial sum belongs: the row offsets along the two rings, and the sum that goes round one of them.
-/
module

public import proofs.«01_k».proof.Proof.Contents

@[expose] public section

noncomputable section

namespace Cert.KernelIdeal.Rings

open Cert.KernelIdeal Cert.KernelIdeal.Gen
open Idealize.ShloMosaic Idealize.ShloMosaic.TcCoe

/-! ## Rows -/

/-- The first row that send `h` of a device carries; at `h = 15`, the first row of the device's own result. -/
def rows (r : Bool) : ℕ → Dev nD → ℕ
  | 0, c => seedOff r c 0
  | h + 1, c => rowsOff r c (hopIx h) 0

/-- The rows a device adds to are the rows its neighbour sent. -/
theorem rows_next (r : Bool) (h : Fin 15) (c : Dev nD) : rows r h.val (dst (!r) c) = rows r (h.val + 1) c := by
  revert r h c; decide +kernel

/-- The last rows are the device's own. -/
theorem rows_last (r : Bool) (c : Dev nD) : rows r 15 c = 256 * c.val := by
  revert r c; decide +kernel

theorem rows_le (r : Bool) (h : Fin 16) (c : Dev nD) : rows r h.val c + 256 ≤ 4096 := by
  revert r h c; decide +kernel

theorem seedOff_one (r : Bool) (c : Dev nD) : seedOff r c 1 = 0 := by revert r c; decide +kernel
theorem rowsOff_one (r : Bool) (c : Dev nD) (h : Fin 15) : rowsOff r c h 1 = 0 := by revert r c h; decide +kernel

/-! ## The sum that goes round -/

variable {M : Type*} [AddCommMonoid M]

/-- What has been added up when send `h` of a device leaves, where device `d` adds `g d`. -/
def acc (g : Dev nD → M) (r : Bool) : ℕ → Dev nD → M
  | 0, c => g c
  | h + 1, c => acc g r h (dst (!r) c) + g c

/-- It is the sum of the shares of the devices behind. -/
theorem acc_eq (g : Dev nD → M) (r : Bool) (h : ℕ) : ∀ c, acc g r h c = ∑ k ∈ Finset.range (h + 1), g ((dst (!r))^[k] c) := by
  induction h with
  | zero => intro c; simp [acc]
  | succ n ih =>
    intro c
    rw [Finset.sum_range_succ', acc, ih]
    rfl

/-- Sixteen steps along a ring meet each device once. -/
theorem round_bijective (r : Bool) (c : Dev nD) : Function.Bijective (fun k : Fin 16 => (dst (!r))^[k.val] c) := by
  have inj : ∀ (r : Bool) (c : Dev nD) (a b : Fin 16), (dst (!r))^[a.val] c = (dst (!r))^[b.val] c → a = b := by decide +kernel
  exact (Fintype.bijective_iff_injective_and_card _).mpr ⟨fun a b h => inj r c a b h, rfl⟩

/-- After the last hop every device's share is in. -/
theorem acc_all (g : Dev nD → M) (r : Bool) (c : Dev nD) : acc g r 15 c = ∑ d : Dev nD, g d := by
  rw [acc_eq, Finset.sum_range]
  exact Fintype.sum_bijective _ (round_bijective r c) _ _ fun _ => rfl

end Cert.KernelIdeal.Rings

end
-- ==== Proof.Shares.lean ====
/-
  What one device adds to an element, and what the whole sum of an element is.
-/
module

public import proofs.«01_k».proof.Proof.Tables
public import Idealize.ShloMosaic.Lib.Pointwise

@[expose] public section

noncomputable section

namespace Cert.KernelIdeal.Rings

open Cert.KernelIdeal Cert.KernelIdeal.Gen
open Idealize.ShloMosaic Idealize.ShloMosaic.TcCoe

variable (m : (ℓ : Loc nD τ sig) → Buf (Elt Ideal) ℓ)

/-- The product of two blocks at an element. -/
theorem prod_apply (x : FVec Ideal S256x256 .f32) (w : FVec Ideal S256x1024 .f32) (p : Fin 256) (q : Fin 1024) :
    prod (castX x) (castW w) (ix2 p q) = ∑ k : Fin 256, x (ix2 p k) * w (ix2 k q) := by
  pointwise [prod, castX, castW]

theorem col_lt (r : Bool) (j : Fin 4) (q : Fin 1024) : col r j + q.val < 8192 := by
  have := inb_col r j 1
  have h : col r j + 1024 ≤ 8192 := this
  omega

/-- A device's blocks, as arrays. -/
def xBlk (c : Dev nD) : FVec Ideal S4096x256 .f32 := xAt m c
def wBlk (c : Dev nD) : FVec Ideal S256x8192 .f32 := wAt m c

/-- A device's share of an element of the product, from its own blocks. -/
def share (c : Dev nD) (R : Fin 4096) (C : Fin 8192) : Ideal .f32 :=
  ∑ k : Fin 256, xBlk m c (ix2 R k) * wBlk m c (ix2 k C)

/-- What a device forms at an offset is its share of those rows and columns. -/
theorem prodAt_apply (c : Dev nD) (off : Fin 2 → Nat) (hoff : ∀ a, off a + S256x256.size a ≤ S4096x256.size a) (h1 : off 1 = 0)
    (r : Bool) (j : Fin 4) (p : Fin 256) (q : Fin 1024) (R : Fin 4096) (hR : R.val = off 0 + p.val) (C : Fin 8192) (hC : C.val = col r j + q.val) :
    prodAt m c off hoff r j (ix2 p q) = share m c R C := by
  unfold prodAt share
  rw [prod_apply]
  refine Finset.sum_congr rfl fun k _ => ?_
  have e0 : xM.view.readAt (Elt Ideal) (Rect.unit (s := S4096x256) off S256x256.size hoff).toLoadRect (xAt m c) (ix2 p k) = xBlk m c (ix2 R k) := by
    refine congrArg (xAt m c) ?_
    funext a; apply Fin.ext
    fin_cases a
    · show off 0 + 1 * p.val = R.val
      omega
    · show off 1 + 1 * k.val = k.val
      omega
  have e1 : wM.view.readAt (Elt Ideal) (colR r j).toLoadRect (wAt m c) (ix2 k q) = wBlk m c (ix2 k C) := by
    refine congrArg (wAt m c) ?_
    funext a; apply Fin.ext
    fin_cases a
    · show 0 + 1 * k.val = k.val
      omega
    · show col r j + 1 * q.val = C.val
      omega
  rw [e0, e1]

/-- What a device sends at an element: the shares of the devices behind it. -/
theorem sentV_apply (r : Bool) (j : Fin 4) (p : Fin 256) (q : Fin 1024) (C : Fin 8192) (hC : C.val = col r j + q.val) (h : ℕ) (hh : h < 16) :
    ∀ (c : Dev nD) (R : Fin 4096), R.val = rows r h c + p.val → sentV m r j h c (ix2 p q) = acc (fun d => share m d R C) r h c := by
  induction h with
  | zero =>
    intro c R hR
    exact prodAt_apply m c _ _ (seedOff_one r c) r j p q R hR C hC
  | succ n ih =>
    intro c R hR
    have hn : n < 15 := by omega
    have e := ih (by omega) (dst (!r) c) R (by rw [hR, ← rows_next r ⟨n, hn⟩ c])
    have e' : hopProd m c r j (hopIx n) (ix2 p q) = share m c R C := prodAt_apply m c _ _ (rowsOff_one r c _) r j p q R hR C hC
    show sentV m r j n (dst (!r) c) (ix2 p q) + hopProd m c r j (hopIx n) (ix2 p q) = acc _ r n (dst (!r) c) + share m c R C
    rw [e, e']

/-- The whole sum at an element of a device's rows: every device's share. -/
theorem wholeV_apply (c : Dev nD) (r : Bool) (j : Fin 4) (p : Fin 256) (q : Fin 1024) (R : Fin 4096) (hR : R.val = 256 * c.val + p.val)
    (C : Fin 8192) (hC : C.val = col r j + q.val) :
    wholeV m c r j (ix2 p q) = ∑ d : Dev nD, share m d R C := by
  have e : wholeV m c r j = sentV m r j 15 c := (sentV_succ m c r j 14).symm
  rw [e, sentV_apply m r j p q C hC 15 (by decide) c R (by rw [hR, rows_last]), acc_all]

end Cert.KernelIdeal.Rings

end
-- ==== Proof.Result.lean ====
/-
  What a device's result array holds at the end, element by element, from the devices' blocks of the two arguments.
-/
module

public import proofs.«01_k».proof.Proof.Run
public import proofs.«01_k».proof.Proof.Shares
public import Idealize.ShloMosaic.Lib.Pipeline.ValueKit.Geometry

@[expose] public section

noncomputable section

namespace Cert.KernelIdeal.Rings

open Cert.KernelIdeal Cert.KernelIdeal.Gen
open Idealize.ShloMosaic Idealize.ShloMosaic.TcCoe
open Idealize.ShloMosaic.Pipeline

section Any

variable {F : FTy → Type} [FloatOps F] (m : (ℓ : Loc nD τ sig) → Buf (Elt F) ℓ)

/-- The result array ends at what the kernel left in its window. -/
theorem finalA_out (c : Dev nD) : finalA m c (2 : Fin 3) = outAt m c :=
  Dat.arrAt_eq_of_after_last (dats (F := F) m 0 c) (2 : Fin 3) (⟨0, by decide +kernel⟩ : Fin grid0.N) (by decide +kernel : win0_2.WholeAt (⟨0, by decide +kernel⟩ : Fin grid0.N)) (outAt m c) fun _ => rfl

/-- A window of a whole array reads the array. -/
theorem xAt_eq (c : Dev nD) (i : S4096x256.Idx) : xAt m c i = m ((c : Thread nD τ).loc main_arg0) i := by
  refine congrArg (m ((c : Thread nD τ).loc main_arg0)) ?_
  funext a; apply Fin.ext
  fin_cases a
  · show 0 + 1 * (i 0).val = (i 0).val
    omega
  · show 0 + 1 * (i 1).val = (i 1).val
    omega

theorem wAt_eq (c : Dev nD) (i : S256x8192.Idx) : wAt m c i = m ((c : Thread nD τ).loc main_arg1) i := by
  refine congrArg (m ((c : Thread nD τ).loc main_arg1)) ?_
  funext a; apply Fin.ext
  fin_cases a
  · show 0 + 1 * (i 0).val = (i 0).val
    omega
  · show 0 + 1 * (i 1).val = (i 1).val
    omega

end Any

variable (m : (ℓ : Loc nD τ sig) → Buf (Elt Ideal) ℓ)

/-- The gate: a value times its logistic. -/
def silu (y : Ideal .f32) : Ideal .f32 := y * Ideal.logistic y

/-- A column is in the sub-column that its key names, at its place there. -/
theorem col_key (n : ℕ) (hn : n < 8192) : n = col (keyOf n).1 (keyOf n).2 + n % 1024 := by
  unfold keyOf col
  by_cases h : 4096 ≤ n <;> simp only [h, decide_true, decide_false] <;> omega

/-- An element of a device's result: the gate of the sum of every device's share. -/
theorem outAt_apply (c : Dev nD) (p : Fin 256) (C : Fin 8192) (R : Fin 4096) (hR : R.val = 256 * c.val + p.val) :
    outAt m c (ix2 p C) = silu (∑ d : Dev nD, share m d R C) := by
  have e : locOf (ix2 p C) = ix2 p (⟨C.val % 1024, Nat.mod_lt _ (by decide)⟩ : Fin 1024) := by
    funext a; apply Fin.ext
    fin_cases a <;> rfl
  have w := wholeV_apply m c (keyOf C.val).1 (keyOf C.val).2 p ⟨C.val % 1024, Nat.mod_lt _ (by decide)⟩ R hR C (col_key C.val C.isLt)
  show outV m c (keyOf C.val).1 (keyOf C.val).2 (locOf (ix2 p C)) = _
  rw [e, ← w]
  rfl

end Cert.KernelIdeal.Rings

end
-- ==== Proof.Reference.lean ====
/-
  What the reference computes, element by element.
-/
module

public import proofs.«01_k».proof.Proof.Gen.ReferenceIdeal.Run
public import proofs.«01_k».proof.Proof.Result

@[expose] public section

noncomputable section

namespace Cert.ReferenceIdeal.Plain

open Cert.ReferenceIdeal Cert.ReferenceIdeal.Gen
open Idealize.ShloMosaic Idealize.ShloMosaic.TcCoe Idealize.SL.Sem

/-! ## The gate -/

/-- The denominator of the gate is not zero. -/
theorem denominator_ne (y : EReal) : 1 + Ideal.exp (-y) ≠ 0 := by
  have h : (0 : EReal) ≤ Ideal.exp (-y) := by
    induction -y using EReal.rec with
    | bot => simp
    | top => simp
    | coe r => rw [Ideal.exp_coe]; exact_mod_cast (Real.exp_pos r).le
  have h1 : (0 : EReal) < 1 + Ideal.exp (-y) := lt_of_lt_of_le zero_lt_one (le_add_of_nonneg_right h)
  exact h1.ne'

/-- A value over its denominator is the value times its logistic. -/
theorem gate_eq (y : Ideal .f32) : Ideal.div y (1 + Ideal.exp (-y)) = Cert.KernelIdeal.Rings.silu y := by
  unfold Cert.KernelIdeal.Rings.silu Ideal.logistic Ideal.div
  rw [if_neg (denominator_ne y), if_neg (denominator_ne y), one_mul]

/-! ## The result -/

variable (X : FVec Ideal S4096x4096 .f32) (W : FVec Ideal S4096x8192 .f32)

/-- The reference's result as a function of its two arguments. -/
def result : FVec Ideal S4096x8192 .f32 :=
  Host.divf (Host.dotGeneral dot_S4096x4096_S4096x8192_S4096x8192_1_0_0_1_n_n none X W)
    (addf (broadcastInDim S4096x8192 ![] bcast_S_S4096x8192 (constant S_ .f32 0x3F800000#32))
      (Host.exp (Host.negf (Host.dotGeneral dot_S4096x4096_S4096x8192_S4096x8192_1_0_0_1_n_n none X W))))

/-- An element of it: the gate of the product's element. -/
theorem result_apply (R : Fin 4096) (C : Fin 8192) :
    result X W (ix2 R C) = Cert.KernelIdeal.Rings.silu (∑ k : Fin 4096, X (ix2 R k) * W (ix2 k C)) := by
  rw [← gate_eq]
  pointwise [result]

end Cert.ReferenceIdeal.Plain

end
-- ==== Proof.Equation.lean ====
/-
  The kernel's results are the blocks of the reference's result.
-/
module

public import proofs.«01_k».proof.Defs
public import proofs.«01_k».proof.Proof.Reference
public import Idealize.ShloMosaic.Lib.Layout
public import Idealize.ShloMosaic.Lib.Pipeline.ValueKit.Acc

@[expose] public section

noncomputable section

namespace Cert.Proof

open Idealize.ShloMosaic Idealize.ShloMosaic.TcCoe Idealize.SL.Sem
open Cert.KernelIdeal.Rings

section Blocks

variable (m : (ℓ : Loc Cert.KernelIdeal.nD Cert.KernelIdeal.τ Cert.KernelIdeal.sig) → Buf (Elt Ideal) ℓ)
  (X : FVec Ideal Cert.ReferenceIdeal.S4096x4096 .f32) (W : FVec Ideal Cert.ReferenceIdeal.S4096x8192 .f32)

/-- Each device holds its block of columns of the first argument and its block of rows of the second. -/
def Holds : Prop := ∀ c : Dev Cert.KernelIdeal.nD,
  m ((c.tc : Thread Cert.KernelIdeal.nD Cert.KernelIdeal.τ).loc Cert.KernelIdeal.main_arg0) = Layout.block ⟨2, ![4096, 256]⟩ ⟨2, ![4096, 4096]⟩ 1 16 c X
  ∧ m ((c.tc : Thread Cert.KernelIdeal.nD Cert.KernelIdeal.τ).loc Cert.KernelIdeal.main_arg1) = Layout.block ⟨2, ![256, 8192]⟩ ⟨2, ![4096, 8192]⟩ 0 16 c W

variable {m X W}

/-- A device's share, from the whole arguments: the terms of its 256 positions of the contraction. -/
theorem share_eq (h : Holds m X W) (c : Fin 16) (R : Fin 4096) (C : Fin 8192) :
    share m c R C = ∑ k : Fin 256, X (ix2 R ⟨c.val * 256 + k.val, by omega⟩) * W (ix2 ⟨c.val * 256 + k.val, by omega⟩ C) := by
  unfold share
  refine Finset.sum_congr rfl fun k _ => ?_
  have e0 : xBlk m c (ix2 R k) = X (ix2 R ⟨c.val * 256 + k.val, by omega⟩) := by
    refine (xAt_eq m c (ix2 R k)).trans ((congrFun (h c).1 (ix2 R k)).trans (congrArg X ?_))
    funext a; apply Fin.ext
    fin_cases a <;> rfl
  have e1 : wBlk m c (ix2 k C) = W (ix2 ⟨c.val * 256 + k.val, by omega⟩ C) := by
    refine (wAt_eq m c (ix2 k C)).trans ((congrFun (h c).2 (ix2 k C)).trans (congrArg W ?_))
    funext a; apply Fin.ext
    fin_cases a <;> rfl
  rw [e0, e1]

/-- The shares of all devices make the whole contraction. -/
theorem shares_sum (h : Holds m X W) (R : Fin 4096) (C : Fin 8192) :
    ∑ c : Fin 16, share m c R C = ∑ k : Fin 4096, X (ix2 R k) * W (ix2 k C) := by
  rw [← Fin.sum_mul_add_fin 16 256 (fun k : Fin 4096 => X (ix2 R k) * W (ix2 k C))]
  exact Finset.sum_congr rfl fun c _ => share_eq h c R C

/-- A device's result is its block of rows of the reference's result. -/
theorem out_eq (h : Holds m X W) (c : Fin 16) :
    outAt m c = Layout.block ⟨2, ![256, 8192]⟩ ⟨2, ![4096, 8192]⟩ 0 16 c (Cert.ReferenceIdeal.Plain.result X W) := by
  funext i
  have hi : i = ix2 (i 0 : Fin 256) (i 1 : Fin 8192) := eq_ix2 i
  have hp : (i 0 : Fin 256).val < 256 := (i 0 : Fin 256).isLt
  have hR : c.val * 256 + (i 0 : Fin 256).val < 4096 := by omega
  have e := outAt_apply m c (i 0 : Fin 256) (i 1 : Fin 8192) ⟨c.val * 256 + (i 0 : Fin 256).val, hR⟩ (by show c.val * 256 + _ = _; omega)
  refine (congrArg (outAt m c) hi).trans (e.trans ((congrArg silu (shares_sum h _ _)).trans ((Cert.ReferenceIdeal.Plain.result_apply X W _ _).symm.trans ?_)))
  refine congrArg (Cert.ReferenceIdeal.Plain.result X W) ?_
  funext a; apply Fin.ext
  fin_cases a <;> rfl

end Blocks

/-- Over the extended reals, whatever the arguments, every device ends with its block of rows of the reference's result. -/
theorem equation : Cert.algebraic_KernelIdeal_ReferenceIdeal := by
  intro m g m' g' _ h
  refine ⟨Cert.ReferenceIdeal.Plain.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono (fun _ r c => ⟨(r.1 c 2).trans ((finalA_out m c).trans (out_eq h c)),
      (r.1 c 0).trans (finalA_x m c), (r.1 c 1).trans (finalA_w m c)⟩) (run_main m g)
  · exact (θ_run Cert.ReferenceIdeal.defs _ _).mono (fun _ r => r 0) (Cert.ReferenceIdeal.Value.run (F := Ideal) m' g')

end Cert.Proof

end
-- ==== Proof.Clipped.lean ====
/-
  The reference with its exponent clipped, where no sum leaves the clip's range.
-/
module

public import proofs.«01_k».proof.Defs
public import proofs.«01_k».proof.Proof.Gen.ClippedIdeal.Run
public import proofs.«01_k».proof.Proof.Gen.Pre_partials_small_KernelIdeal
public import proofs.«01_k».proof.Proof.Equation

@[expose] public section

noncomputable section

namespace Cert.ClippedIdeal.Plain

open Cert.ClippedIdeal Cert.ClippedIdeal.Gen
open Idealize.ShloMosaic Idealize.ShloMosaic.TcCoe Idealize.SL.Sem

variable (X : FVec Ideal S4096x4096 .f32) (W : FVec Ideal S4096x8192 .f32)

/-- The clipped reference's result as a function of its two arguments. -/
def result : FVec Ideal S4096x8192 .f32 :=
  Host.divf (Host.dotGeneral dot_S4096x4096_S4096x8192_S4096x8192_1_0_0_1_n_n none X W)
    (addf (broadcastInDim S4096x8192 ![] bcast_S_S4096x8192 (constant S_ .f32 0x3F800000#32))
      (Host.exp (Host.negf (minimumf (broadcastInDim S4096x8192 ![] bcast_S_S4096x8192 (id (constant S_ .f32 0x42700000#32)))
        (maximumf (broadcastInDim S4096x8192 ![] bcast_S_S4096x8192 (id (constant S_ .f32 0xC2700000#32)))
          (Host.dotGeneral dot_S4096x4096_S4096x8192_S4096x8192_1_0_0_1_n_n none X W))))))

/-! ## Its constants -/

theorem ofBits_hi : Ideal.ofBits .f32 0x42700000#32 = ((60 : ℝ) : EReal) := by
  simp [Ideal.ofBits, Ideal.ieee, -EReal.coe_mul]; norm_num
theorem ofBits_lo : Ideal.ofBits .f32 0xC2700000#32 = ((-60 : ℝ) : EReal) := by
  simp [Ideal.ofBits, Ideal.ieee, -EReal.coe_mul]; norm_num
theorem ofBits_part : Ideal.ofBits .f32 0x40700000#32 = ((15 / 4 : ℝ) : EReal) := by
  simp [Ideal.ofBits, Ideal.ieee, -EReal.coe_mul]; norm_num

/-- An element of the result, where the product's element is in the clip's range: the gate of it. -/
theorem result_apply (R : Fin 4096) (C : Fin 8192)
    (hlo : ((-60 : ℝ) : EReal) ≤ ∑ k : Fin 4096, X (ix2 R k) * W (ix2 k C))
    (hhi : (∑ k : Fin 4096, X (ix2 R k) * W (ix2 k C)) ≤ ((60 : ℝ) : EReal)) :
    result X W (ix2 R C) = Cert.KernelIdeal.Rings.silu (∑ k : Fin 4096, X (ix2 R k) * W (ix2 k C)) := by
  rw [← Cert.ReferenceIdeal.Plain.gate_eq]
  pointwise [result]
  have e0 : (id (constant (F := Ideal) S_ .f32 0x42700000#32) ix0 : EReal) = ((60 : ℝ) : EReal) := ofBits_hi
  have e1 : (id (constant (F := Ideal) S_ .f32 0xC2700000#32) ix0 : EReal) = ((-60 : ℝ) : EReal) := ofBits_lo
  rw [e0, e1, max_eq_right hlo, min_eq_right hhi]

/-! ## The precondition -/

/-- What the precondition says of a device's blocks: each element of their product is between -15/4 and 15/4. -/
theorem small_apply (x : FVec Ideal Cert.KernelIdeal.S4096x256 .f32) (w : FVec Ideal Cert.KernelIdeal.S256x8192 .f32)
    (h : Cert.Pre_partials_small_KernelIdeal.fn (F := Ideal) x w = fun _ => 1#1) (R : Fin 4096) (C : Fin 8192) :
    ((-(15 / 4) : ℝ) : EReal) ≤ ∑ k : Fin 256, x (ix2 R k) * w (ix2 k C) ∧ (∑ k : Fin 256, x (ix2 R k) * w (ix2 k C)) ≤ ((15 / 4 : ℝ) : EReal) := by
  have e := congrFun h (ix2 R C)
  pointwise [Cert.Pre_partials_small_KernelIdeal.fn] at e
  rw [ofBits_part] at e
  have b : max (∑ k : Fin 256, x (ix2 R k) * w (ix2 k C)) (-∑ k : Fin 256, x (ix2 R k) * w (ix2 k C)) ≤ ((15 / 4 : ℝ) : EReal) := by
    by_contra hn
    rw [show FloatOps.absf (∑ k : Fin 256, x (ix2 R k) * w (ix2 k C)) = max (∑ k : Fin 256, x (ix2 R k) * w (ix2 k C)) (-∑ k : Fin 256, x (ix2 R k) * w (ix2 k C)) from rfl,
      decide_eq_false hn] at e
    exact absurd e (by decide)
  refine ⟨?_, (max_le_iff.mp b).1⟩
  rw [EReal.coe_neg]
  exact EReal.neg_le_of_neg_le (max_le_iff.mp b).2

/-- Sixteen numbers between -15/4 and 15/4 add up to one between -60 and 60. -/
theorem sum_bounds (f : Fin 16 → EReal) (h : ∀ c, ((-(15 / 4) : ℝ) : EReal) ≤ f c ∧ f c ≤ ((15 / 4 : ℝ) : EReal)) :
    ((-60 : ℝ) : EReal) ≤ ∑ c, f c ∧ (∑ c, f c) ≤ ((60 : ℝ) : EReal) := by
  have k : ∀ a : ℝ, (∑ _c : Fin 16, (a : EReal)) = ((16 * a : ℝ) : EReal) := fun a => by
    rw [Finset.sum_const, Finset.card_univ, Fintype.card_fin, ← EReal.coe_nsmul, nsmul_eq_mul]
    norm_num
  constructor
  · refine le_of_eq_of_le ?_ (Finset.sum_le_sum fun c _ => (h c).1)
    rw [k]; norm_num
  · refine le_of_le_of_eq (Finset.sum_le_sum fun c _ => (h c).2) ?_
    rw [k]; norm_num

end Cert.ClippedIdeal.Plain

namespace Cert.Proof

open Idealize.ShloMosaic Idealize.ShloMosaic.TcCoe Idealize.SL.Sem
open Cert.KernelIdeal.Rings

section Blocks

variable {m : (ℓ : Loc Cert.KernelIdeal.nD Cert.KernelIdeal.τ Cert.KernelIdeal.sig) → Buf (Elt Ideal) ℓ}
  {X : FVec Ideal Cert.ReferenceIdeal.S4096x4096 .f32} {W : FVec Ideal Cert.ReferenceIdeal.S4096x8192 .f32}

/-- Under the precondition a device's share of any element is between -15/4 and 15/4. -/
theorem share_bounds (hp : Cert.Pre_KernelIdeal_partials_small_KernelIdeal m) (c : Dev Cert.KernelIdeal.nD) (R : Fin 4096) (C : Fin 8192) :
    ((-(15 / 4) : ℝ) : EReal) ≤ share m c R C ∧ share m c R C ≤ ((15 / 4 : ℝ) : EReal) := by
  have b := Cert.ClippedIdeal.Plain.small_apply _ _ (hp c) R C
  have e : share m c R C = ∑ k : Fin 256,
      (show FVec Ideal Cert.KernelIdeal.S4096x256 .f32 from m ((c.tc : Thread Cert.KernelIdeal.nD Cert.KernelIdeal.τ).loc Cert.KernelIdeal.main_arg0)) (ix2 R k)
        * (show FVec Ideal Cert.KernelIdeal.S256x8192 .f32 from m ((c.tc : Thread Cert.KernelIdeal.nD Cert.KernelIdeal.τ).loc Cert.KernelIdeal.main_arg1)) (ix2 k C) :=
    Finset.sum_congr rfl fun k _ => congrArg₂ (fun a b : Ideal .f32 => a * b) (xAt_eq m c (ix2 R k)) (wAt_eq m c (ix2 k C))
  rw [e]
  exact b

/-- Under the precondition the clipped reference's result is the plain reference's. -/
theorem clipped_eq (hp : Cert.Pre_KernelIdeal_partials_small_KernelIdeal m) (h : Holds m X W) :
    Cert.ClippedIdeal.Plain.result X W = Cert.ReferenceIdeal.Plain.result X W := by
  funext i
  have hi : i = ix2 (i 0 : Fin 4096) (i 1 : Fin 8192) := eq_ix2 i
  have b := Cert.ClippedIdeal.Plain.sum_bounds (fun c => share m c (i 0 : Fin 4096) (i 1 : Fin 8192)) fun c => share_bounds hp c _ _
  have e := shares_sum h (i 0 : Fin 4096) (i 1 : Fin 8192)
  rw [hi]
  exact (Cert.ClippedIdeal.Plain.result_apply X W _ _ (le_of_le_of_eq b.1 e) (le_of_eq_of_le e.symm b.2)).trans (Cert.ReferenceIdeal.Plain.result_apply X W _ _).symm

end Blocks

/-- Over the extended reals, where no device's partial product exceeds 15/4, every device ends with its block of rows of the
    clipped reference's result. -/
theorem equation_clipped : Cert.algebraic_KernelIdeal_ClippedIdeal_pre_partials_small_KernelIdeal := by
  intro m g m' g' hp h
  refine ⟨Cert.ClippedIdeal.Plain.result (m' (((0 : Dev Cert.ClippedIdeal.nD).tc : Thread Cert.ClippedIdeal.nD Cert.ClippedIdeal.τ).loc Cert.ClippedIdeal.main_arg0))
    (m' (((0 : Dev Cert.ClippedIdeal.nD).tc : Thread Cert.ClippedIdeal.nD Cert.ClippedIdeal.τ).loc Cert.ClippedIdeal.main_arg1)), ?_, ?_⟩
  · rw [clipped_eq hp h]
    exact (θ_run Cert.KernelIdeal.defs _ _).mono (fun _ r c => ⟨(r.1 c 2).trans ((finalA_out m c).trans (out_eq h c)),
      (r.1 c 0).trans (finalA_x m c), (r.1 c 1).trans (finalA_w m c)⟩) (run_main m g)
  · exact (θ_run Cert.ClippedIdeal.defs _ _).mono (fun _ r => r 0) (Cert.ClippedIdeal.Value.run (F := Ideal) m' g')

/-- The clipped reference over the extended reals. -/
theorem frame_clipped : Cert.quiescent_ClippedIdeal := fun m g _ =>
  (θ_run Cert.ClippedIdeal.defs _ _).mono (fun r h => ⟨fun c => (h c).2, sem_eq_zero_of_no_sems (by decide) r.2⟩)
    (Cert.ClippedIdeal.Value.run (F := Ideal) m g)

end Cert.Proof

end
-- ==== Proof.lean ====
/-
  The certificate: each program's frame, the kernel's idealization, and the equations between the kernel and the references.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.Pre_partials_small_KernelIdeal
public import proofs.«01_k».proof.Proof.Gen.Pre_partials_small_ClippedIdeal
public import proofs.«01_k».proof.Proof.Frames
public import proofs.«01_k».proof.Proof.Equation
public import proofs.«01_k».proof.Proof.Clipped
public import Idealize.ShloMosaic.Adequacy
public import Idealize.ShloMosaic.Init

@[expose] public section

noncomputable section

namespace Cert.Proof

/-- Everything that is claimed. -/
theorem claim : Cert.Claim :=
  ⟨Cert.Kernel.Gen.facts, Cert.KernelIdeal.Gen.facts, Cert.ReferenceIdeal.Gen.facts, Cert.ClippedIdeal.Gen.facts,
    Cert.Pre_partials_small_KernelIdeal.Gen.facts, Cert.Pre_partials_small_ClippedIdeal.Gen.facts,
    frame_kernel, frame_ideal, fun m g _ => frame_ideal m g trivial, frame_reference,
    frame_clipped, fun m g _ => frame_clipped m g trivial, trivial, equation, equation_clipped⟩

end Cert.Proof

end
